-- ==== Defs.lean ====
def Pre_Experts [hPre_names_experts : Cert.Pre_names_experts.Facts] (m : (ℓ : Loc Cert.Experts.nD Cert.Experts.τ Cert.Experts.sig) → Buf (Elt Bits) ℓ) : Prop :=
  ∀ c : Dev Cert.Experts.nD,
    (Cert.Pre_names_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_names_experts : Cert.Pre_names_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_names_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_names_experts [hPre_names_experts : Cert.Pre_names_experts.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_names_experts.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_real_scores [hPre_real_scores : Cert.Pre_real_scores.Facts] (m : (ℓ : Loc Cert.AttnIdeal.nD Cert.AttnIdeal.τ Cert.AttnIdeal.sig) → Buf (Elt Ideal) ℓ) : Prop :=
  ∀ c : Dev Cert.AttnIdeal.nD,
    (Cert.Pre_real_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_real_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_real_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_real_scores [hPre_real_scores : Cert.Pre_real_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_real_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_real_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_real_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Experts [hExperts : Cert.Experts.Facts] [hPre_names_experts : Cert.Pre_names_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_names_experts : Cert.Pre_names_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_names_experts [hExpertsRefIdeal : Cert.ExpertsRefIdeal.Facts] [hPre_names_experts : Cert.Pre_names_experts.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_names_experts m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_real_scores [hAttnIdeal : Cert.AttnIdeal.Facts] [hPre_real_scores : Cert.Pre_real_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_real_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_real_scores [hAttnRefIdeal : Cert.AttnRefIdeal.Facts] [hPre_real_scores : Cert.Pre_real_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_real_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def preserves_Experts_ExpertsIdeal : Prop :=
  True

def algebraic_ExpertsIdeal_ExpertsRefIdeal [hExpertsIdeal : Cert.ExpertsIdeal.Facts] [hExpertsRefIdeal : Cert.ExpertsRefIdeal.Facts] [hPre_names_experts : Cert.Pre_names_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v33) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v31_0)) (v1 : (c : Dev Cert.MergeIdeal.nD) → Buf (Elt Ideal) ((c.tc : Thread Cert.MergeIdeal.nD Cert.MergeIdeal.τ).loc Cert.MergeIdeal.main_v31_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v31_0) = v0 c
          ∧ r.2.mem ((c.tc : Thread Cert.MergeIdeal.nD Cert.MergeIdeal.τ).loc Cert.MergeIdeal.main_v31_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v40) = v0 c
          ∧ r.2.mem ((c.tc : Thread Cert.MergeRefIdeal.nD Cert.MergeRefIdeal.τ).loc Cert.MergeRefIdeal.main_v46) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14))

def preserves_Attn_AttnIdeal : Prop :=
  IdealRules.named_const.Statement Cert.AttnIdeal.κ "neg" .f32 0xF149F2CA#32 ⊥

def algebraic_AttnIdeal_AttnRefIdeal_pre_real_scores [hAttnIdeal : Cert.AttnIdeal.Facts] [hAttnRefIdeal : Cert.AttnRefIdeal.Facts] [hPre_real_scores : Cert.Pre_real_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_real_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v30)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v30) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v95) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)) (v2 : (c : Dev Cert.InProjIdeal.nD) → Buf (Elt Ideal) ((c.tc : Thread Cert.InProjIdeal.nD Cert.InProjIdeal.τ).loc Cert.InProjIdeal.main_v1_2)) (v3 : (c : Dev Cert.InProjIdeal.nD) → Buf (Elt Ideal) ((c.tc : Thread Cert.InProjIdeal.nD Cert.InProjIdeal.τ).loc Cert.InProjIdeal.main_v1_3)) (v4 : (c : Dev Cert.InProjIdeal.nD) → Buf (Elt Ideal) ((c.tc : Thread Cert.InProjIdeal.nD Cert.InProjIdeal.τ).loc Cert.InProjIdeal.main_v1_4)) (v5 : (c : Dev Cert.InProjIdeal.nD) → Buf (Elt Ideal) ((c.tc : Thread Cert.InProjIdeal.nD Cert.InProjIdeal.τ).loc Cert.InProjIdeal.main_v1_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_v1_2) = v2 c
          ∧ r.2.mem ((c.tc : Thread Cert.InProjIdeal.nD Cert.InProjIdeal.τ).loc Cert.InProjIdeal.main_v1_3) = v3 c
          ∧ r.2.mem ((c.tc : Thread Cert.InProjIdeal.nD Cert.InProjIdeal.τ).loc Cert.InProjIdeal.main_v1_4) = v4 c
          ∧ r.2.mem ((c.tc : Thread Cert.InProjIdeal.nD Cert.InProjIdeal.τ).loc Cert.InProjIdeal.main_v1_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v17) = v0 c
          ∧ r.2.mem ((c.tc : Thread Cert.InProjRefIdeal.nD Cert.InProjRefIdeal.τ).loc Cert.InProjRefIdeal.main_v18) = v1 c
          ∧ r.2.mem ((c.tc : Thread Cert.InProjRefIdeal.nD Cert.InProjRefIdeal.τ).loc Cert.InProjRefIdeal.main_v19) = v2 c
          ∧ r.2.mem ((c.tc : Thread Cert.InProjRefIdeal.nD Cert.InProjRefIdeal.τ).loc Cert.InProjRefIdeal.main_v12) = v3 c
          ∧ r.2.mem ((c.tc : Thread Cert.InProjRefIdeal.nD Cert.InProjRefIdeal.τ).loc Cert.InProjRefIdeal.main_v26) = v4 c
          ∧ r.2.mem ((c.tc : Thread Cert.InProjRefIdeal.nD Cert.InProjRefIdeal.τ).loc Cert.InProjRefIdeal.main_v33) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def Claim : Prop :=
  ∃ (hExperts : Cert.Experts.Facts) (hExpertsIdeal : Cert.ExpertsIdeal.Facts) (hExpertsRefIdeal : Cert.ExpertsRefIdeal.Facts) (hMerge : Cert.Merge.Facts) (hMergeIdeal : Cert.MergeIdeal.Facts) (hMergeRefIdeal : Cert.MergeRefIdeal.Facts) (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hPre_names_experts : Cert.Pre_names_experts.Facts) (hPre_real_scores : Cert.Pre_real_scores.Facts),
    quiescent_Experts (hExperts := hExperts) (hPre_names_experts := hPre_names_experts)
    ∧ quiescent_ExpertsIdeal (hExpertsIdeal := hExpertsIdeal) (hPre_names_experts := hPre_names_experts)
    ∧ quiescent_ExpertsRefIdeal (hExpertsRefIdeal := hExpertsRefIdeal)
    ∧ quiescent_ExpertsRefIdeal_pre_names_experts (hExpertsRefIdeal := hExpertsRefIdeal) (hPre_names_experts := hPre_names_experts)
    ∧ quiescent_Merge (hMerge := hMerge)
    ∧ quiescent_MergeIdeal (hMergeIdeal := hMergeIdeal)
    ∧ quiescent_MergeRefIdeal (hMergeRefIdeal := hMergeRefIdeal)
    ∧ quiescent_Attn (hAttn := hAttn)
    ∧ quiescent_AttnIdeal (hAttnIdeal := hAttnIdeal)
    ∧ quiescent_AttnIdeal_pre_real_scores (hAttnIdeal := hAttnIdeal) (hPre_real_scores := hPre_real_scores)
    ∧ quiescent_AttnRefIdeal (hAttnRefIdeal := hAttnRefIdeal)
    ∧ quiescent_AttnRefIdeal_pre_real_scores (hAttnRefIdeal := hAttnRefIdeal) (hPre_real_scores := hPre_real_scores)
    ∧ quiescent_InProj (hInProj := hInProj)
    ∧ quiescent_InProjIdeal (hInProjIdeal := hInProjIdeal)
    ∧ quiescent_InProjRefIdeal (hInProjRefIdeal := hInProjRefIdeal)
    ∧ preserves_Experts_ExpertsIdeal
    ∧ algebraic_ExpertsIdeal_ExpertsRefIdeal (hExpertsIdeal := hExpertsIdeal) (hExpertsRefIdeal := hExpertsRefIdeal) (hPre_names_experts := hPre_names_experts)
    ∧ preserves_Merge_MergeIdeal
    ∧ algebraic_MergeIdeal_MergeRefIdeal (hMergeIdeal := hMergeIdeal) (hMergeRefIdeal := hMergeRefIdeal)
    ∧ preserves_Attn_AttnIdeal
    ∧ algebraic_AttnIdeal_AttnRefIdeal_pre_real_scores (hAttnIdeal := hAttnIdeal) (hAttnRefIdeal := hAttnRefIdeal) (hPre_real_scores := hPre_real_scores)
    ∧ preserves_InProj_InProjIdeal
    ∧ algebraic_InProjIdeal_InProjRefIdeal (hInProjIdeal := hInProjIdeal) (hInProjRefIdeal := hInProjRefIdeal)
-- ==== Pre_names_experts.lean ====
abbrev S81920x1024 : Shape := ⟨2, ![81920, 1024]⟩
abbrev S320 : Shape := ⟨1, ![320]⟩
abbrev S1 : Shape := ⟨1, ![1]⟩
abbrev S64x1024x512 : Shape := ⟨3, ![64, 1024, 512]⟩
abbrev S64x512x1024 : Shape := ⟨3, ![64, 512, 1024]⟩
abbrev S_ : Shape := ⟨0, ![]⟩

class Facts : Prop where
  bcast_S_S320 : S_.BroadcastsInDim S320 (![] : Fin 0 → Fin S320.rank)

variable [Facts]

def fn {F : FTy → Type} [FloatOps F] (main_arg0 : FVec F S81920x1024 .f32) (main_arg1 : IVec S320 32) (main_arg2 : IVec S1 32) (main_arg3 : FVec F S64x1024x512 .f32) (main_arg4 : FVec F S64x1024x512 .f32) (main_arg5 : FVec F S64x512x1024 .f32) : IVec S320 1 :=
  let main_c : IVec S_ 32 := constantI S_ 32 0#32
  let main_v0 : IVec S320 32 := broadcastInDim S320 ![] bcast_S_S320 main_c
  let main_v1 : IVec S320 1 := cmpi .sge main_arg1 main_v0
  let main_c_0 : IVec S_ 32 := constantI S_ 32 64#32
  let main_v2 : IVec S320 32 := broadcastInDim S320 ![] bcast_S_S320 main_c_0
  let main_v3 : IVec S320 1 := cmpi .slt main_arg1 main_v2
  let main_v4 : IVec S320 1 := andi main_v1 main_v3
  main_v4
-- ==== Pre_real_scores.lean ====
abbrev S4x8192x512 : Shape := ⟨3, ![4, 8192, 512]⟩
abbrev S4x8192x128 : Shape := ⟨3, ![4, 8192, 128]⟩
abbrev S8 : Shape := ⟨1, ![8]⟩
abbrev S_ : Shape := ⟨0, ![]⟩

class Facts : Prop where
  bitsLt_bf16_f32 : FTy.bits .bf16 < FTy.bits .f32
  bcast_S_S4x8192x512 : S_.BroadcastsInDim S4x8192x512 (![] : Fin 0 → Fin S4x8192x512.rank)
  bcast_S_S4x8192x128 : S_.BroadcastsInDim S4x8192x128 (![] : Fin 0 → Fin S4x8192x128.rank)
  bcast_S_S8 : S_.BroadcastsInDim S8 (![] : Fin 0 → Fin S8.rank)

variable [Facts]

def fn {F : FTy → Type} [FloatOps F] (main_arg0 : FVec F S4x8192x512 .bf16) (main_arg1 : FVec F S4x8192x128 .bf16) (main_arg2 : FVec F S4x8192x128 .bf16) (main_arg3 : FVec F S8 .f32) : IVec S4x8192x512 1 × IVec S4x8192x128 1 × IVec S8 1 :=
  let main_v0 : FVec F S4x8192x512 .f32 := (extf .f32 · bitsLt_bf16_f32) main_arg0
  let main_v1 : FVec F S4x8192x512 .f32 := Host.absf main_v0
  let main_cst : FVec F S_ .f32 := constant S_ .f32 0x7F800000#32
  let main_v2 : FVec F S4x8192x512 .f32 := broadcastInDim S4x8192x512 ![] bcast_S_S4x8192x512 main_cst
  let main_v3 : IVec S4x8192x512 1 := cmpf .olt main_v1 main_v2
  let main_v4 : FVec F S4x8192x128 .f32 := (extf .f32 · bitsLt_bf16_f32) main_arg1
  let main_v5 : FVec F S4x8192x128 .f32 := Host.absf main_v4
  let main_cst_0 : FVec F S_ .f32 := constant S_ .f32 0x7F800000#32
  let main_v6 : FVec F S4x8192x128 .f32 := broadcastInDim S4x8192x128 ![] bcast_S_S4x8192x128 main_cst_0
  let main_v7 : IVec S4x8192x128 1 := cmpf .olt main_v5 main_v6
  let main_v8 : FVec F S8 .f32 := Host.absf main_arg3
  let main_cst_1 : FVec F S_ .f32 := constant S_ .f32 0x7F800000#32
  let main_v9 : FVec F S8 .f32 := broadcastInDim S8 ![] bcast_S_S8 main_cst_1
  let main_v10 : IVec S8 1 := cmpf .olt main_v8 main_v9
  (main_v3, main_v7, main_v10)
-- ==== Experts.lean ====
abbrev S81920x1024 : Shape := ⟨2, ![81920, 1024]⟩
abbrev S320 : Shape := ⟨1, ![320]⟩
abbrev S1 : Shape := ⟨1, ![1]⟩
abbrev S64x1024x512 : Shape := ⟨3, ![64, 1024, 512]⟩
abbrev S64x512x1024 : Shape := ⟨3, ![64, 512, 1024]⟩
abbrev S256x1024 : Shape := ⟨2, ![256, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S81920x1024, .f32⟩
  | .hbm, ⟨1, _⟩ => ⟨S64x1024x512, .f32⟩
  | .hbm, ⟨2, _⟩ => ⟨S64x1024x512, .f32⟩
  | .hbm, ⟨3, _⟩ => ⟨S64x512x1024, .f32⟩
  | .hbm, ⟨4, _⟩ => ⟨S81920x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S320, .i32⟩
  | .local _ .smem, ⟨1, _⟩ => ⟨S1, .i32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S81920x1024 : Shape := ⟨2, ![81920, 1024]⟩
abbrev S320 : Shape := ⟨1, ![320]⟩
abbrev S1 : Shape := ⟨1, ![1]⟩
abbrev S64x1024x512 : Shape := ⟨3, ![64, 1024, 512]⟩
abbrev S64x512x1024 : Shape := ⟨3, ![64, 512, 1024]⟩
abbrev S320x256x1024 : Shape := ⟨3, ![320, 256, 1024]⟩
abbrev S_ : Shape := ⟨0, ![]⟩
abbrev S320x1 : Shape := ⟨2, ![320, 1]⟩
abbrev S320x1024x512 : Shape := ⟨3, ![320, 1024, 512]⟩
abbrev S320x512x1024 : Shape := ⟨3, ![320, 512, 1024]⟩
abbrev S320x256x512 : Shape := ⟨3, ![320, 256, 512]⟩
abbrev S320x1x1 : Shape := ⟨3, ![320, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S81920x1024, .f32⟩
  | .hbm, ⟨1, _⟩ => ⟨S320, .i32⟩
  | .hbm, ⟨2, _⟩ => ⟨S1, .i32⟩
  | .hbm, ⟨3, _⟩ => ⟨S64x1024x512, .f32⟩
  | .hbm, ⟨4, _⟩ => ⟨S64x1024x512, .f32⟩
  | .hbm, ⟨5, _⟩ => ⟨S64x512x1024, .f32⟩
  | .hbm, ⟨6, _⟩ => ⟨S320x256x1024, .f32⟩
  | .hbm, ⟨7, _⟩ => ⟨S_, .i32⟩
  | .hbm, ⟨8, _⟩ => ⟨S320, .i32⟩
  | .hbm, ⟨9, _⟩ => ⟨S320, .i1⟩
  | .hbm, ⟨10, _⟩ => ⟨S_, .i32⟩
  | .hbm, ⟨11, _⟩ => ⟨S320, .i32⟩
  | .hbm, ⟨12, _⟩ => ⟨S320, .i32⟩
  | .hbm, ⟨13, _⟩ => ⟨S320, .i32⟩
  | .hbm, ⟨14, _⟩ => ⟨S320x1, .i32⟩
  | .hbm, ⟨15, _⟩ => ⟨S320x1024x512, .f32⟩
  | .hbm, ⟨16, _⟩ => ⟨S_, .i32⟩
  | .hbm, ⟨17, _⟩ => ⟨S320, .i32⟩
  | .hbm, ⟨18, _⟩ => ⟨S320, .i1⟩
  | .hbm, ⟨19, _⟩ => ⟨S_, .i32⟩
  | .hbm, ⟨20, _⟩ => ⟨S320, .i32⟩
  | .hbm, ⟨21, _⟩ => ⟨S320, .i32⟩
  | .hbm, ⟨22, _⟩ => ⟨S320, .i32⟩
  | .hbm, ⟨23, _⟩ => ⟨S320x1, .i32⟩
  | .hbm, ⟨24, _⟩ => ⟨S320x1024x512, .f32⟩
  | .hbm, ⟨25, _⟩ => ⟨S_, .i32⟩
  | .hbm, ⟨26, _⟩ => ⟨S320, .i32⟩
  | .hbm, ⟨27, _⟩ => ⟨S320, .i1⟩
  | .hbm, ⟨28, _⟩ => ⟨S_, .i32⟩
  | .hbm, ⟨29, _⟩ => ⟨S320, .i32⟩
  | .hbm, ⟨30, _⟩ => ⟨S320, .i32⟩
  | .hbm, ⟨31, _⟩ => ⟨S320, .i32⟩
  | .hbm, ⟨32, _⟩ => ⟨S320x1, .i32⟩
  | .hbm, ⟨33, _⟩ => ⟨S320x512x1024, .f32⟩
  | .hbm, ⟨34, _⟩ => ⟨S320x256x512, .f32⟩
  | .hbm, ⟨35, _⟩ => ⟨S320x256x512, .f32⟩
  | .hbm, ⟨36, _⟩ => ⟨S320x256x512, .f32⟩
  | .hbm, ⟨37, _⟩ => ⟨S_, .f32⟩
  | .hbm, ⟨38, _⟩ => ⟨S320x256x512, .f32⟩
  | .hbm, ⟨39, _⟩ => ⟨S320x256x512, .f32⟩
  | .hbm, ⟨40, _⟩ => ⟨S_, .f32⟩
  | .hbm, ⟨41, _⟩ => ⟨S320x256x512, .f32⟩
  | .hbm, ⟨42, _⟩ => ⟨S320x256x512, .f32⟩
  | .hbm, ⟨43, _⟩ => ⟨S320x256x512, .f32⟩
  | .hbm, ⟨44, _⟩ => ⟨S320x256x512, .f32⟩
  | .hbm, ⟨45, _⟩ => ⟨S320x256x512, .f32⟩
  | .hbm, ⟨46, _⟩ => ⟨S320x256x1024, .f32⟩
  | .hbm, ⟨47, _⟩ => ⟨S320, .i32⟩
  | .hbm, ⟨48, _⟩ => ⟨S_, .i32⟩
  | .hbm, ⟨49, _⟩ => ⟨S320, .i32⟩
  | .hbm, ⟨50, _⟩ => ⟨S320, .i1⟩
  | .hbm, ⟨51, _⟩ => ⟨S320x1x1, .i1⟩
  | .hbm, ⟨52, _⟩ => ⟨S_, .f32⟩
  | .hbm, ⟨53, _⟩ => ⟨S_, .f32⟩
  | .hbm, ⟨54, _⟩ => ⟨S320x256x1024, .i1⟩
  | .hbm, ⟨55, _⟩ => ⟨S320x256x1024, .f32⟩
  | .hbm, ⟨56, _⟩ => ⟨S320x256x1024, .f32⟩
  | .hbm, ⟨57, _⟩ => ⟨S81920x1024, .f32⟩
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Merge.lean ====
abbrev S4x8192x512 : Shape := ⟨3, ![4, 8192, 512]⟩
abbrev S4x8192x1024 : Shape := ⟨3, ![4, 8192, 1024]⟩
abbrev S4x6x1024 : Shape := ⟨3, ![4, 6, 1024]⟩
abbrev S512x1024 : Shape := ⟨2, ![512, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S4x8192x128 : Shape := ⟨3, ![4, 8192, 128]⟩
abbrev S1x512x512 : Shape := ⟨3, ![1, 512, 512]⟩
abbrev S1x512x1024 : Shape := ⟨3, ![1, 512, 1024]⟩
abbrev S1x6x1024 : Shape := ⟨3, ![1, 6, 1024]⟩
abbrev S1x512x128 : Shape := ⟨3, ![1, 512, 128]⟩
abbrev S1x1x1024 : Shape := ⟨3, ![1, 1, 1024]⟩
abbrev S512x128 : Shape := ⟨2, ![512, 128]⟩
abbrev S128 : Shape := ⟨1, ![128]⟩

abbrev nBuf : Space → Nat
  | .hbm => 59
  | .vmem => 31
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .f32⟩
  | .hbm, ⟨2, _⟩ => ⟨S4x8192x1024, .bf16⟩
  | .hbm, ⟨3, _⟩ => ⟨S4x8192x1024, .bf16⟩
  | .hbm, ⟨4, _⟩ => ⟨S4x8192x1024, .f32⟩
  | .hbm, ⟨5, _⟩ => ⟨S4x6x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x8, .f32⟩
  | .hbm, ⟨12, _⟩ => ⟨S8, .f32⟩
  | .hbm, ⟨13, _⟩ => ⟨S1024x64, .f32⟩
  | .hbm, ⟨14, _⟩ => ⟨S64, .f32⟩
  | .hbm, ⟨15, _⟩ => ⟨S_, .f32⟩
  | .hbm, ⟨16, _⟩ => ⟨S1024x128, .f32⟩
  | .hbm, ⟨17, _⟩ => ⟨S_, .i32⟩
  | .hbm, ⟨18, _⟩ => ⟨S1, .i32⟩
  | .hbm, ⟨19, _⟩ => ⟨S1024x128, .f32⟩
  | .hbm, ⟨20, _⟩ => ⟨S_, .i32⟩
  | .hbm, ⟨21, _⟩ => ⟨S1, .i32⟩
  | .hbm, ⟨22, _⟩ => ⟨S1024x128, .f32⟩
  | .hbm, ⟨23, _⟩ => ⟨S_, .f32⟩
  | .hbm, ⟨24, _⟩ => ⟨S1x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S1024x128, .bf16⟩
  | .hbm, ⟨38, _⟩ => ⟨S1024x128, .f32⟩
  | .hbm, ⟨39, _⟩ => ⟨S1024x128, .f32⟩
  | .hbm, ⟨40, _⟩ => ⟨S1024x128, .bf16⟩
  | .hbm, ⟨41, _⟩ => ⟨S512, .i32⟩
  | .hbm, ⟨42, _⟩ => ⟨S512x1, .i32⟩
  | .hbm, ⟨43, _⟩ => ⟨S512, .i32⟩
  | .hbm, ⟨44, _⟩ => ⟨S1x512, .i32⟩
  | .hbm, ⟨45, _⟩ => ⟨S512x512, .i32⟩
  | .hbm, ⟨46, _⟩ => ⟨S512x512, .i32⟩
  | .hbm, ⟨47, _⟩ => ⟨S512x512, .i1⟩
  | .hbm, ⟨48, _⟩ => ⟨S512x512, .bf16⟩
  | .hbm, ⟨49, _⟩ => ⟨S512x1024, .bf16⟩
  | .hbm, ⟨50, _⟩ => ⟨S512x1024, .bf16⟩
  | .hbm, ⟨51, _⟩ => ⟨S1024x1024, .bf16⟩
  | .hbm, ⟨52, _⟩ => ⟨S1x1024, .f32⟩
  | .hbm, ⟨53, _⟩ => ⟨S1x1024, .f32⟩
  | .hbm, ⟨54, _⟩ => ⟨S4x8192x1024, .f32⟩
  | .hbm, ⟨55, _⟩ => ⟨S4x8192x1024, .f32⟩
  | .hbm, ⟨56, _⟩ => ⟨S4x8192x128, .i32⟩
  | .hbm, ⟨57, _⟩ => ⟨S4x8192x128, .f32⟩
  | .hbm, ⟨58, _⟩ => ⟨S1x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x6x1024, .f32⟩
  | .local _ .vmem, ⟨11, _⟩ => ⟨S1x6x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1024x128, .bf16⟩
  | .local _ .vmem, ⟨18, _⟩ => ⟨S1024x128, .bf16⟩
  | .local _ .vmem, ⟨19, _⟩ => ⟨S1x128, .f32⟩
  | .local _ .vmem, ⟨20, _⟩ => ⟨S512x512, .bf16⟩
  | .local _ .vmem, ⟨21, _⟩ => ⟨S1x512x1024, .f32⟩
  | .local _ .vmem, ⟨22, _⟩ => ⟨S1x512x1024, .f32⟩
  | .local _ .vmem, ⟨23, _⟩ => ⟨S1x512x1024, .f32⟩
  | .local _ .vmem, ⟨24, _⟩ => ⟨S1x512x1024, .f32⟩
  | .local _ .vmem, ⟨25, _⟩ => ⟨S1x512x128, .i32⟩
  | .local _ .vmem, ⟨26, _⟩ => ⟨S1x512x128, .i32⟩
  | .local _ .vmem, ⟨27, _⟩ => ⟨S1x512x128, .f32⟩
  | .local _ .vmem, ⟨28, _⟩ => ⟨S1x512x128, .f32⟩
  | .local _ .vmem, ⟨29, _⟩ => ⟨S1x128, .f32⟩
  | .local _ .vmem, ⟨30, _⟩ => ⟨S1x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_c_2 : Ref sig .tc := ⟨.hbm, 25, rfl⟩
abbrev main_v6 : Ref sig .tc := ⟨.hbm, 26, rfl⟩
abbrev main_c_3 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_4 : Ref sig .tc := ⟨.hbm, 31, rfl⟩
abbrev main_v10 : Ref sig .tc := ⟨.hbm, 32, rfl⟩
abbrev main_c_5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31_0 : Ref sig .tc := ⟨.hbm, 54, rfl⟩
abbrev main_v31_1 : Ref sig .tc := ⟨.hbm, 55, rfl⟩
abbrev main_v31_2 : Ref sig .tc := ⟨.hbm, 56, rfl⟩
abbrev main_v31_3 : Ref sig .tc := ⟨.hbm, 57, rfl⟩
abbrev main_v31_4 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]
-- ==== MergeRefIdeal.lean ====
abbrev S4x8192x512 : Shape := ⟨3, ![4, 8192, 512]⟩
abbrev S4x8192x1024 : Shape := ⟨3, ![4, 8192, 1024]⟩
abbrev S4x6x1024 : Shape := ⟨3, ![4, 6, 1024]⟩
abbrev S512x1024 : Shape := ⟨2, ![512, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .f32⟩
  | .hbm, ⟨2, _⟩ => ⟨S4x8192x1024, .bf16⟩
  | .hbm, ⟨3, _⟩ => ⟨S4x8192x1024, .bf16⟩
  | .hbm, ⟨4, _⟩ => ⟨S4x8192x1024, .f32⟩
  | .hbm, ⟨5, _⟩ => ⟨S4x6x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x8, .f32⟩
  | .hbm, ⟨12, _⟩ => ⟨S8, .f32⟩
  | .hbm, ⟨13, _⟩ => ⟨S1024x64, .f32⟩
  | .hbm, ⟨14, _⟩ => ⟨S64, .f32⟩
  | .hbm, ⟨15, _⟩ => ⟨S4x8192x512, .f32⟩
  | .hbm, ⟨16, _⟩ => ⟨S4x8192x1024, .f32⟩
  | .hbm, ⟨17, _⟩ => ⟨S4x8192x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S_, .f32⟩
  | .hbm, ⟨34, _⟩ => ⟨S4x8192, .f32⟩
  | .hbm, ⟨35, _⟩ => ⟨S4x8192x1, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S_, .f32⟩
  | .hbm, ⟨46, _⟩ => ⟨S4x8192x1, .f32⟩
  | .hbm, ⟨47, _⟩ => ⟨S4x8192x1, .f32⟩
  | .hbm, ⟨48, _⟩ => ⟨S4x8192x1024, .f32⟩
  | .hbm, ⟨49, _⟩ => ⟨S4x8192x1024, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x8192x1, .f32⟩
  | .hbm, ⟨54, _⟩ => ⟨S4x8192x1024, .f32⟩
  | .hbm, ⟨55, _⟩ => ⟨S4x8192x1024, .f32⟩
  | .hbm, ⟨56, _⟩ => ⟨S1x1x1024, .f32⟩
  | .hbm, ⟨57, _⟩ => ⟨S4x8192x1024, .f32⟩
  | .hbm, ⟨58, _⟩ => ⟨S4x8192x1024, .f32⟩
  | .hbm, ⟨59, _⟩ => ⟨S1x1x1024, .f32⟩
  | .hbm, ⟨60, _⟩ => ⟨S4x8192x1024, .f32⟩
  | .hbm, ⟨61, _⟩ => ⟨S4x8192x1024, .f32⟩
  | .hbm, ⟨62, _⟩ => ⟨S_, .f32⟩
  | .hbm, ⟨63, _⟩ => ⟨S4x1x1024, .f32⟩
  | .hbm, ⟨64, _⟩ => ⟨S4x1x1024, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]
-- ==== Attn.lean ====
abbrev S4x8192x512 : Shape := ⟨3, ![4, 8192, 512]⟩
abbrev S4x8192x128 : Shape := ⟨3, ![4, 8192, 128]⟩
abbrev S8 : Shape := ⟨1, ![8]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S1x128x384 : Shape := ⟨3, ![1, 128, 384]⟩
abbrev S8x1x1 : Shape := ⟨3, ![8, 1, 1]⟩
abbrev S8x128x384 : Shape := ⟨3, ![8, 128, 384]⟩
abbrev S1x128x512 : Shape := ⟨3, ![1, 128, 512]⟩
abbrev S1x128x128 : Shape := ⟨3, ![1, 128, 128]⟩
abbrev S128x128 : Shape := ⟨2, ![128, 128]⟩
abbrev S384x128 : Shape := ⟨2, ![384, 128]⟩
abbrev S384x64 : Shape := ⟨2, ![384, 64]⟩
abbrev S1x128x64 : Shape := ⟨3, ![1, 128, 64]⟩
abbrev S128x64 : Shape := ⟨2, ![128, 64]⟩
abbrev S1 : Shape := ⟨1, ![1]⟩
abbrev S128x512 : Shape := ⟨2, ![128, 512]⟩

abbrev nBuf : Space → Nat
  | .hbm => 45
  | .vmem => 17
  | .smem => 1
  | _ => 0

abbrev bufTy : (tb : Table) → Fin (tcTables nBuf tb) → BufTy
  | .hbm, ⟨0, _⟩ => ⟨S4x8192x512, .bf16⟩
  | .hbm, ⟨1, _⟩ => ⟨S4x8192x128, .bf16⟩
  | .hbm, ⟨2, _⟩ => ⟨S4x8192x128, .bf16⟩
  | .hbm, ⟨3, _⟩ => ⟨S8, .f32⟩
  | .hbm, ⟨4, _⟩ => ⟨S128, .i32⟩
  | .hbm, ⟨5, _⟩ => ⟨S128x1, .i32⟩
  | .hbm, ⟨6, _⟩ => ⟨S384, .i32⟩
  | .hbm, ⟨7, _⟩ => ⟨S1x384, .i32⟩
  | .hbm, ⟨8, _⟩ => ⟨S_, .i32⟩
  | .hbm, ⟨9, _⟩ => ⟨S1x384, .i32⟩
  | .hbm, ⟨10, _⟩ => ⟨S1x384, .i32⟩
  | .hbm, ⟨11, _⟩ => ⟨S128x384, .i32⟩
  | .hbm, ⟨12, _⟩ => ⟨S128x384, .i32⟩
  | .hbm, ⟨13, _⟩ => ⟨S128x384, .i32⟩
  | .hbm, ⟨14, _⟩ => ⟨S128x384, .i32⟩
  | .hbm, ⟨15, _⟩ => ⟨S128x384, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S1x128x384, .f32⟩
  | .hbm, ⟨30, _⟩ => ⟨S_, .f32⟩
  | .hbm, ⟨31, _⟩ => ⟨S1x128x384, .f32⟩
  | .hbm, ⟨32, _⟩ => ⟨S1x128x384, .i1⟩
  | .hbm, ⟨33, _⟩ => ⟨S8x1x1, .f32⟩
  | .hbm, ⟨34, _⟩ => ⟨S8x1x1, .f32⟩
  | .hbm, ⟨35, _⟩ => ⟨S1x128x384, .f32⟩
  | .hbm, ⟨36, _⟩ => ⟨S8x128x384, .f32⟩
  | .hbm, ⟨37, _⟩ => ⟨S8x128x384, .f32⟩
  | .hbm, ⟨38, _⟩ => ⟨S8x128x384, .f32⟩
  | .hbm, ⟨39, _⟩ => ⟨S_, .f32⟩
  | .hbm, ⟨40, _⟩ => ⟨S_, .f32⟩
  | .hbm, ⟨41, _⟩ => ⟨S8x128x384, .i1⟩
  | .hbm, ⟨42, _⟩ => ⟨S8x128x384, .f32⟩
  | .hbm, ⟨43, _⟩ => ⟨S8x128x384, .f32⟩
  | .hbm, ⟨44, _⟩ => ⟨S4x8192x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S8x128x384, .f32⟩
  | .local _ .vmem, ⟨15, _⟩ => ⟨S1x128x512, .bf16⟩
  | .local _ .vmem, ⟨16, _⟩ => ⟨S1x128x512, .bf16⟩
  | .local _ .smem, ⟨0, _⟩ => ⟨S8, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v29 : Ref sig .tc := ⟨.hbm, 43, rfl⟩
abbrev main_v30 : Ref sig .tc := ⟨.hbm, 44, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x128x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnIdeal.lean ====
variable {F : FTy → Type} [FloatOps F] [Named F]
def κ : String → Option EReal := fun
  | "neg" => some ⊥
  | _ => none
-- ==== AttnRefIdeal.lean ====
abbrev S4x8192x512 : Shape := ⟨3, ![4, 8192, 512]⟩
abbrev S4x8192x128 : Shape := ⟨3, ![4, 8192, 128]⟩
abbrev S8 : Shape := ⟨1, ![8]⟩
abbrev S4x64x128x2x4x64 : Shape := ⟨6, ![4, 64, 128, 2, 4, 64]⟩
abbrev S4x8192x2x64 : Shape := ⟨4, ![4, 8192, 2, 64]⟩
abbrev S_ : Shape := ⟨0, ![]⟩
abbrev S4x8448x2x64 : Shape := ⟨4, ![4, 8448, 2, 64]⟩
abbrev S4x66x128x2x64 : Shape := ⟨5, ![4, 66, 128, 2, 64]⟩
abbrev S4x64x128x2x64 : Shape := ⟨5, ![4, 64, 128, 2, 64]⟩
abbrev S4x64x384x2x64 : Shape := ⟨5, ![4, 64, 384, 2, 64]⟩
abbrev S4x64x2x384x128x4 : Shape := ⟨6, ![4, 64, 2, 384, 128, 4]⟩
abbrev S4x64x2x4x128x384 : Shape := ⟨6, ![4, 64, 2, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S64 : Shape := ⟨1, ![64]⟩
abbrev S64x1x1 : Shape := ⟨3, ![64, 1, 1]⟩
abbrev S1x1x384 : Shape := ⟨3, ![1, 1, 384]⟩
abbrev S64x1x384 : Shape := ⟨3, ![64, 1, 384]⟩
abbrev S1x128x384 : Shape := ⟨3, ![1, 128, 384]⟩
abbrev S64x128x384 : Shape := ⟨3, ![64, 128, 384]⟩
abbrev S2x4 : Shape := ⟨2, ![2, 4]⟩
abbrev S2x4x1x1 : Shape := ⟨4, ![2, 4, 1, 1]⟩
abbrev S1x1x128x384 : Shape := ⟨4, ![1, 1, 128, 384]⟩
abbrev S2x4x128x384 : Shape := ⟨4, ![2, 4, 128, 384]⟩
abbrev S1x64x1x1x128x384 : Shape := ⟨6, ![1, 64, 1, 1, 128, 384]⟩
abbrev S1x1x2x4x128x384 : Shape := ⟨6, ![1, 1, 2, 4, 128, 384]⟩
abbrev S1x1x2x4x1x1 : Shape := ⟨6, ![1, 1, 2, 4, 1, 1]⟩
abbrev S4x64x2x4x128 : Shape := ⟨5, ![4, 64, 2, 4, 128]⟩
abbrev S4x64x2x4x128x1 : Shape := ⟨6, ![4, 64, 2, 4, 128, 1]⟩
abbrev S4x64x2x64x4x128 : Shape := ⟨6, ![4, 64, 2, 64, 4, 128]⟩

abbrev nBuf : Space → Nat
  | .hbm => 120
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x128, .bf16⟩
  | .hbm, ⟨2, _⟩ => ⟨S4x8192x128, .bf16⟩
  | .hbm, ⟨3, _⟩ => ⟨S8, .f32⟩
  | .hbm, ⟨4, _⟩ => ⟨S4x8192x512, .f32⟩
  | .hbm, ⟨5, _⟩ => ⟨S4x8192x128, .f32⟩
  | .hbm, ⟨6, _⟩ => ⟨S4x8192x128, .f32⟩
  | .hbm, ⟨7, _⟩ => ⟨S4x64x128x2x4x64, .f32⟩
  | .hbm, ⟨8, _⟩ => ⟨S4x8192x2x64, .f32⟩
  | .hbm, ⟨9, _⟩ => ⟨S4x8192x2x64, .f32⟩
  | .hbm, ⟨10, _⟩ => ⟨S_, .i32⟩
  | .hbm, ⟨11, _⟩ => ⟨S_, .f32⟩
  | .hbm, ⟨12, _⟩ => ⟨S4x8448x2x64, .f32⟩
  | .hbm, ⟨13, _⟩ => ⟨S4x66x128x2x64, .f32⟩
  | .hbm, ⟨14, _⟩ => ⟨S4x64x128x2x64, .f32⟩
  | .hbm, ⟨15, _⟩ => ⟨S4x64x128x2x64, .f32⟩
  | .hbm, ⟨16, _⟩ => ⟨S4x64x128x2x64, .f32⟩
  | .hbm, ⟨17, _⟩ => ⟨S4x64x384x2x64, .f32⟩
  | .hbm, ⟨18, _⟩ => ⟨S_, .i32⟩
  | .hbm, ⟨19, _⟩ => ⟨S_, .f32⟩
  | .hbm, ⟨20, _⟩ => ⟨S4x8448x2x64, .f32⟩
  | .hbm, ⟨21, _⟩ => ⟨S4x66x128x2x64, .f32⟩
  | .hbm, ⟨22, _⟩ => ⟨S4x64x128x2x64, .f32⟩
  | .hbm, ⟨23, _⟩ => ⟨S4x64x128x2x64, .f32⟩
  | .hbm, ⟨24, _⟩ => ⟨S4x64x128x2x64, .f32⟩
  | .hbm, ⟨25, _⟩ => ⟨S4x64x384x2x64, .f32⟩
  | .hbm, ⟨26, _⟩ => ⟨S4x64x2x384x128x4, .f32⟩
  | .hbm, ⟨27, _⟩ => ⟨S4x64x2x4x128x384, .f32⟩
  | .hbm, ⟨28, _⟩ => ⟨S128, .i32⟩
  | .hbm, ⟨29, _⟩ => ⟨S128x1, .i32⟩
  | .hbm, ⟨30, _⟩ => ⟨S384, .i32⟩
  | .hbm, ⟨31, _⟩ => ⟨S1x384, .i32⟩
  | .hbm, ⟨32, _⟩ => ⟨S_, .i32⟩
  | .hbm, ⟨33, _⟩ => ⟨S1x384, .i32⟩
  | .hbm, ⟨34, _⟩ => ⟨S1x384, .i32⟩
  | .hbm, ⟨35, _⟩ => ⟨S128x384, .i32⟩
  | .hbm, ⟨36, _⟩ => ⟨S128x384, .i32⟩
  | .hbm, ⟨37, _⟩ => ⟨S128x384, .i32⟩
  | .hbm, ⟨38, _⟩ => ⟨S64, .i32⟩
  | .hbm, ⟨39, _⟩ => ⟨S64x1x1, .i32⟩
  | .hbm, ⟨40, _⟩ => ⟨S_, .i32⟩
  | .hbm, ⟨41, _⟩ => ⟨S64x1x1, .i32⟩
  | .hbm, ⟨42, _⟩ => ⟨S64x1x1, .i32⟩
  | .hbm, ⟨43, _⟩ => ⟨S_, .i32⟩
  | .hbm, ⟨44, _⟩ => ⟨S64x1x1, .i32⟩
  | .hbm, ⟨45, _⟩ => ⟨S64x1x1, .i32⟩
  | .hbm, ⟨46, _⟩ => ⟨S1x1x384, .i32⟩
  | .hbm, ⟨47, _⟩ => ⟨S64x1x384, .i32⟩
  | .hbm, ⟨48, _⟩ => ⟨S64x1x384, .i32⟩
  | .hbm, ⟨49, _⟩ => ⟨S64x1x384, .i32⟩
  | .hbm, ⟨50, _⟩ => ⟨S128x384, .i32⟩
  | .hbm, ⟨51, _⟩ => ⟨S_, .i32⟩
  | .hbm, ⟨52, _⟩ => ⟨S128x384, .i32⟩
  | .hbm, ⟨53, _⟩ => ⟨S128x384, .i1⟩
  | .hbm, ⟨54, _⟩ => ⟨S1x128x384, .i1⟩
  | .hbm, ⟨55, _⟩ => ⟨S_, .i32⟩
  | .hbm, ⟨56, _⟩ => ⟨S64x1x384, .i32⟩
  | .hbm, ⟨57, _⟩ => ⟨S64x1x384, .i1⟩
  | .hbm, ⟨58, _⟩ => ⟨S64x128x384, .i1⟩
  | .hbm, ⟨59, _⟩ => ⟨S64x128x384, .i1⟩
  | .hbm, ⟨60, _⟩ => ⟨S64x128x384, .i1⟩
  | .hbm, ⟨61, _⟩ => ⟨S_, .i32⟩
  | .hbm, ⟨62, _⟩ => ⟨S64x1x384, .i32⟩
  | .hbm, ⟨63, _⟩ => ⟨S64x1x384, .i1⟩
  | .hbm, ⟨64, _⟩ => ⟨S64x128x384, .i1⟩
  | .hbm, ⟨65, _⟩ => ⟨S64x128x384, .i1⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S2x4, .f32⟩
  | .hbm, ⟨80, _⟩ => ⟨S2x4x1x1, .f32⟩
  | .hbm, ⟨81, _⟩ => ⟨S2x4x1x1, .f32⟩
  | .hbm, ⟨82, _⟩ => ⟨S128x384, .i32⟩
  | .hbm, ⟨83, _⟩ => ⟨S128x384, .f32⟩
  | .hbm, ⟨84, _⟩ => ⟨S1x1x128x384, .f32⟩
  | .hbm, ⟨85, _⟩ => ⟨S2x4x128x384, .f32⟩
  | .hbm, ⟨86, _⟩ => ⟨S2x4x128x384, .f32⟩
  | .hbm, ⟨87, _⟩ => ⟨S2x4x128x384, .f32⟩
  | .hbm, ⟨88, _⟩ => ⟨S1x64x1x1x128x384, .i1⟩
  | .hbm, ⟨89, _⟩ => ⟨S1x1x2x4x128x384, .f32⟩
  | .hbm, ⟨90, _⟩ => ⟨S4x64x2x4x128x384, .f32⟩
  | .hbm, ⟨91, _⟩ => ⟨S4x64x2x4x128x384, .f32⟩
  | .hbm, ⟨92, _⟩ => ⟨S_, .f32⟩
  | .hbm, ⟨93, _⟩ => ⟨S_, .f32⟩
  | .hbm, ⟨94, _⟩ => ⟨S4x64x2x4x128x384, .i1⟩
  | .hbm, ⟨95, _⟩ => ⟨S4x64x2x4x128x384, .f32⟩
  | .hbm, ⟨96, _⟩ => ⟨S4x64x2x4x128x384, .f32⟩
  | .hbm, ⟨97, _⟩ => ⟨S2x4, .f32⟩
  | .hbm, ⟨98, _⟩ => ⟨S1x1x2x4x1x1, .f32⟩
  | .hbm, ⟨99, _⟩ => ⟨S_, .f32⟩
  | .hbm, ⟨100, _⟩ => ⟨S4x64x2x4x128, .f32⟩
  | .hbm, ⟨101, _⟩ => ⟨S4x64x2x4x128x1, .f32⟩
  | .hbm, ⟨102, _⟩ => ⟨S4x64x2x4x128x1, .f32⟩
  | .hbm, ⟨103, _⟩ => ⟨S4x64x2x4x128x1, .f32⟩
  | .hbm, ⟨104, _⟩ => ⟨S4x64x2x4x128x384, .f32⟩
  | .hbm, ⟨105, _⟩ => ⟨S4x64x2x4x128x384, .f32⟩
  | .hbm, ⟨106, _⟩ => ⟨S4x64x2x4x128x384, .f32⟩
  | .hbm, ⟨107, _⟩ => ⟨S_, .f32⟩
  | .hbm, ⟨108, _⟩ => ⟨S4x64x2x4x128, .f32⟩
  | .hbm, ⟨109, _⟩ => ⟨S4x64x2x4x128x1, .f32⟩
  | .hbm, ⟨110, _⟩ => ⟨S4x64x2x4x128x1, .f32⟩
  | .hbm, ⟨111, _⟩ => ⟨S4x64x2x4x128x1, .f32⟩
  | .hbm, ⟨112, _⟩ => ⟨S4x64x2x4x128x1, .f32⟩
  | .hbm, ⟨113, _⟩ => ⟨S4x64x2x4x128x1, .f32⟩
  | .hbm, ⟨114, _⟩ => ⟨S4x64x2x4x128x384, .f32⟩
  | .hbm, ⟨115, _⟩ => ⟨S4x64x2x4x128x384, .f32⟩
  | .hbm, ⟨116, _⟩ => ⟨S4x64x2x64x4x128, .f32⟩
  | .hbm, ⟨117, _⟩ => ⟨S4x64x128x2x4x64, .f32⟩
  | .hbm, ⟨118, _⟩ => ⟨S4x8192x512, .f32⟩
  | .hbm, ⟨119, _⟩ => ⟨S4x8192x512, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_10 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_11 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_12 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩

abbrev nD : Nat := 1
abbrev τ : Topo := Topo.v7x

variable {F : FTy → Type} [FloatOps F]
-- ==== InProj.lean ====
abbrev S4x8192x1024 : Shape := ⟨3, ![4, 8192, 1024]⟩
abbrev S4x6x1024 : Shape := ⟨3, ![4, 6, 1024]⟩
abbrev S1024x4352 : Shape := ⟨2, ![1024, 4352]⟩
abbrev S4x8192x512 : Shape := ⟨3, ![4, 8192, 512]⟩
abbrev S4x8192x128 : Shape := ⟨3, ![4, 8192, 128]⟩
abbrev S4x8192x1536 : Shape := ⟨3, ![4, 8192, 1536]⟩
abbrev S1x512x1024 : Shape := ⟨3, ![1, 512, 1024]⟩
abbrev S1x6x1024 : Shape := ⟨3, ![1, 6, 1024]⟩
abbrev S1x512x512 : Shape := ⟨3, ![1, 512, 512]⟩
abbrev S1x512x128 : Shape := ⟨3, ![1, 512, 128]⟩
abbrev S1x512x1536 : Shape := ⟨3, ![1, 512, 1536]⟩
abbrev S512x1024 : Shape := ⟨2, ![512, 1024]⟩
abbrev S1x1x1024 : Shape := ⟨3, ![1, 1, 1024]⟩
abbrev S1x1024 : Shape := ⟨2, ![1, 1024]⟩
abbrev S1024x512 : Shape := ⟨2, ![1024, 512]⟩
abbrev S512x512 : Shape := ⟨2, ![512, 512]⟩
abbrev S1024x128 : Shape := ⟨2, ![1024, 128]⟩
abbrev S512x128 : Shape := ⟨2, ![512, 128]⟩
abbrev S1024x1536 : Shape := ⟨2, ![1024, 1536]⟩
abbrev S512x1536 : Shape := ⟨2, ![512, 1536]⟩
abbrev S1024x1024 : Shape := ⟨2, ![1024, 1024]⟩

abbrev nBuf : Space → Nat
  | .hbm => 10
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1024x4352, .f32⟩
  | .hbm, ⟨3, _⟩ => ⟨S1024x4352, .bf16⟩
  | .hbm, ⟨4, _⟩ => ⟨S4x8192x512, .bf16⟩
  | .hbm, ⟨5, _⟩ => ⟨S4x8192x128, .bf16⟩
  | .hbm, ⟨6, _⟩ => ⟨S4x8192x128, .bf16⟩
  | .hbm, ⟨7, _⟩ => ⟨S4x8192x1536, .f32⟩
  | .hbm, ⟨8, _⟩ => ⟨S4x8192x1024, .bf16⟩
  | .hbm, ⟨9, _⟩ => ⟨S4x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x4352, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x128, .bf16⟩
  | .local _ .vmem, ⟨11, _⟩ => ⟨S1x512x1536, .f32⟩
  | .local _ .vmem, ⟨12, _⟩ => ⟨S1x512x1536, .f32⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== InProjRefIdeal.lean ====
abbrev S4x8192x1024 : Shape := ⟨3, ![4, 8192, 1024]⟩
abbrev S4x6x1024 : Shape := ⟨3, ![4, 6, 1024]⟩
abbrev S1024x4352 : Shape := ⟨2, ![1024, 4352]⟩
abbrev S4x1x1024 : Shape := ⟨3, ![4, 1, 1024]⟩
abbrev S_ : Shape := ⟨0, ![]⟩
abbrev S4x8192x4352 : Shape := ⟨3, ![4, 8192, 4352]⟩
abbrev S4x8192x512 : Shape := ⟨3, ![4, 8192, 512]⟩
abbrev S4x8192x128 : Shape := ⟨3, ![4, 8192, 128]⟩
abbrev S4x8192x1536 : Shape := ⟨3, ![4, 8192, 1536]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1024x4352, .f32⟩
  | .hbm, ⟨3, _⟩ => ⟨S4x1x1024, .f32⟩
  | .hbm, ⟨4, _⟩ => ⟨S4x1x1024, .f32⟩
  | .hbm, ⟨5, _⟩ => ⟨S_, .f32⟩
  | .hbm, ⟨6, _⟩ => ⟨S4x1x1024, .f32⟩
  | .hbm, ⟨7, _⟩ => ⟨S4x1x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x4352, .f32⟩
  | .hbm, ⟨13, _⟩ => ⟨S4x8192x512, .f32⟩
  | .hbm, ⟨14, _⟩ => ⟨S4x8192x128, .f32⟩
  | .hbm, ⟨15, _⟩ => ⟨S4x8192x128, .f32⟩
  | .hbm, ⟨16, _⟩ => ⟨S4x8192x1536, .f32⟩
  | .hbm, ⟨17, _⟩ => ⟨S4x8192x1024, .f32⟩
  | .hbm, ⟨18, _⟩ => ⟨S4x8192x1024, .f32⟩
  | .hbm, ⟨19, _⟩ => ⟨S_, .f32⟩
  | .hbm, ⟨20, _⟩ => ⟨S4x8192x512, .f32⟩
  | .hbm, ⟨21, _⟩ => ⟨S4x8192x512, .f32⟩
  | .hbm, ⟨22, _⟩ => ⟨S4x8192x512, .bf16⟩
  | .hbm, ⟨23, _⟩ => ⟨S4x8192x128, .bf16⟩
  | .hbm, ⟨24, _⟩ => ⟨S4x8192x128, .bf16⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x8192x1024, .f32⟩
  | .hbm, ⟨32, _⟩ => ⟨S4x8192x1024, .f32⟩
  | .hbm, ⟨33, _⟩ => ⟨S4x8192x1024, .bf16⟩
  | .hbm, ⟨34, _⟩ => ⟨S4x8192x1024, .f32⟩
  | .hbm, ⟨35, _⟩ => ⟨S4x8192x1024, .f32⟩
  | .hbm, ⟨36, _⟩ => ⟨S_, .f32⟩
  | .hbm, ⟨37, _⟩ => ⟨S4x8192x1024, .f32⟩
  | .hbm, ⟨38, _⟩ => ⟨S4x8192x1024, .f32⟩
  | .hbm, ⟨39, _⟩ => ⟨S_, .f32⟩
  | .hbm, ⟨40, _⟩ => ⟨S4x8192x1024, .f32⟩
  | .hbm, ⟨41, _⟩ => ⟨S4x8192x1024, .f32⟩
  | .hbm, ⟨42, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Proof.Attn.Words.lean ====
/-
  The integer tests of the window and of the sequence's ends, decided over every query and key of a
  block's band.
-/
module

public import Idealize.ShloMosaic.Lib.Pointwise

@[expose] public section

set_option maxRecDepth 16384

namespace Cert.Proof.AttnRef

open Idealize.ShloMosaic

/-- Key `j` of the band is within the window of query `p`. -/
def inBand (p : Fin 128) (j : Fin 384) : Prop := p.val ≤ j.val ∧ j.val ≤ p.val + 256

/-- Key `j` of block `n`'s band is a key of the sequence. -/
def inSeq (n : Fin 64) (j : Fin 384) : Prop := 128 ≤ n.val * 128 + j.val ∧ n.val * 128 + j.val < 8320

/-- Whether a key is within the window is decided on the numbers. -/
instance (p : Fin 128) (j : Fin 384) : Decidable (inBand p j) := inferInstanceAs (Decidable (_ ∧ _))
/-- Whether a key is in the sequence is decided on the numbers. -/
instance (n : Fin 64) (j : Fin 384) : Decidable (inSeq n j) := inferInstanceAs (Decidable (_ ∧ _))

/-- The distance between query and key, as a word. -/
def rel (p : Fin 128) (j : Fin 384) : BitVec 32 :=
  IntOp.absi (IntOp.subi (IntOp.subi (BitVec.ofNat 32 j.val) 128#32) (BitVec.ofNat 32 p.val))

/-- The distance compared with the window. -/
theorem rel_le (p : Fin 128) (j : Fin 384) :
    IntOp.cmpi .sle (rel p j) 128#32 = if inBand p j then 1#1 else 0#1 := by
  revert p j
  decide +kernel

/-- The two tests of a key's position, decided over every block and key. -/
theorem pos_at : ∀ (n : Fin 64) (j : Fin 384),
    IntOp.andi (IntOp.cmpi .sge (IntOp.addi (IntOp.subi (IntOp.muli (BitVec.ofNat 32 n.val) 128#32) 128#32) (BitVec.ofNat 32 j.val)) 0#32)
      (IntOp.cmpi .slt (IntOp.addi (IntOp.subi (IntOp.muli (BitVec.ofNat 32 n.val) 128#32) 128#32) (BitVec.ofNat 32 j.val)) 8192#32)
      = if inSeq n j then 1#1 else 0#1 := by
  decide +kernel

end Cert.Proof.AttnRef

end
-- ==== Proof.Attn.Reads.lean ====
/-
  What the attention kernel's windows hold at a grid point: blocks of the queries, of the keys and
  values (the block before, the block itself, the block after), the bias table and the sinks.
-/
module

public import proofs.«01_k».proof.Proof.Gen.AttnIdeal.Value
public import proofs.«01_k».proof.Proof.Attn.Words
public import Idealize.ShloMosaic.Lib.Pointwise
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)

namespace Cert.Proof.AttnValue

open Cert.AttnIdeal Cert.AttnIdeal.Gen
open Cert.Proof.AttnRef (rel)

variable (m : (ℓ : Loc nD τ sig) → Buf (Elt Ideal) ℓ)

/-- Every window's block index at a point, decided over the 256 points. -/
theorem idx : ∀ t : Fin grid0.N,
    win0_0.index t = ![0] ∧ win0_1.index t = ![t.val / 64, t.val % 64, 0]
    ∧ win0_2.index t = ![t.val / 64, t.val % 64 - 1, 0] ∧ win0_3.index t = ![t.val / 64, t.val % 64, 0]
    ∧ win0_4.index t = ![t.val / 64, min (t.val % 64 + 1) 63, 0]
    ∧ win0_5.index t = ![t.val / 64, t.val % 64 - 1, 0] ∧ win0_6.index t = ![t.val / 64, t.val % 64, 0]
    ∧ win0_7.index t = ![t.val / 64, min (t.val % 64 + 1) 63, 0]
    ∧ win0_8.index t = ![0, 0, 0] ∧ win0_9.index t = ![t.val / 64, t.val % 64, 0] := by
  decide +kernel

/-- The queries. -/
abbrev X0 (c : Dev nD) := m ((c : Thread nD τ).loc main_arg0)
/-- The keys. -/
abbrev X1 (c : Dev nD) := m ((c : Thread nD τ).loc main_arg1)
/-- The values. -/
abbrev X2 (c : Dev nD) := m ((c : Thread nD τ).loc main_arg2)
/-- The sinks. -/
abbrev X3 (c : Dev nD) := m ((c : Thread nD τ).loc main_arg3)

/-- The batch of a point. -/
def bat (t : Fin grid0.N) : Fin 4 := ⟨t.val / 64, by have h : t.val < 256 := t.isLt; omega⟩
/-- The block of queries of a point. -/
def blk (t : Fin grid0.N) : Fin 64 := ⟨t.val % 64, Nat.mod_lt _ (by decide)⟩

/-- The query block. -/
theorem read1 (c : Dev nD) (t : Fin grid0.N) (p : Fin 128) (y : Fin 512) :
    iblk m c 1 t (ix3 0 p y) = X0 m c (ix3 (bat t) ⟨(blk t).val * 128 + p.val, by omega⟩ y) := by
  have e : iblk m c 1 t (ix3 0 p y) = V m c main_arg0 (ix3 (bat t) ⟨(blk t).val * 128 + p.val, by omega⟩ y) := by
    blk_point [iblk, idx t, bat, blk]
  rw [e, V_main_arg0]
/-- The keys of the block before. -/
theorem read2 (c : Dev nD) (t : Fin grid0.N) (p : Fin 128) (y : Fin 128) :
    iblk m c 2 t (ix3 0 p y) = X1 m c (ix3 (bat t) ⟨((blk t).val - 1) * 128 + p.val, by omega⟩ y) := by
  have e : iblk m c 2 t (ix3 0 p y) = V m c main_arg1 (ix3 (bat t) ⟨((blk t).val - 1) * 128 + p.val, by omega⟩ y) := by
    blk_point [iblk, idx t, bat, blk]
  rw [e, V_main_arg1]
/-- The block's own keys. -/
theorem read3 (c : Dev nD) (t : Fin grid0.N) (p : Fin 128) (y : Fin 128) :
    iblk m c 3 t (ix3 0 p y) = X1 m c (ix3 (bat t) ⟨(blk t).val * 128 + p.val, by omega⟩ y) := by
  have e : iblk m c 3 t (ix3 0 p y) = V m c main_arg1 (ix3 (bat t) ⟨(blk t).val * 128 + p.val, by omega⟩ y) := by
    blk_point [iblk, idx t, bat, blk]
  rw [e, V_main_arg1]
/-- The keys of the block after. -/
theorem read4 (c : Dev nD) (t : Fin grid0.N) (p : Fin 128) (y : Fin 128) :
    iblk m c 4 t (ix3 0 p y) = X1 m c (ix3 (bat t) ⟨min ((blk t).val + 1) 63 * 128 + p.val, by omega⟩ y) := by
  have e : iblk m c 4 t (ix3 0 p y) = V m c main_arg1 (ix3 (bat t) ⟨min ((blk t).val + 1) 63 * 128 + p.val, by omega⟩ y) := by
    blk_point [iblk, idx t, bat, blk]
  rw [e, V_main_arg1]
/-- The values of the block before. -/
theorem read5 (c : Dev nD) (t : Fin grid0.N) (p : Fin 128) (y : Fin 128) :
    iblk m c 5 t (ix3 0 p y) = X2 m c (ix3 (bat t) ⟨((blk t).val - 1) * 128 + p.val, by omega⟩ y) := by
  have e : iblk m c 5 t (ix3 0 p y) = V m c main_arg2 (ix3 (bat t) ⟨((blk t).val - 1) * 128 + p.val, by omega⟩ y) := by
    blk_point [iblk, idx t, bat, blk]
  rw [e, V_main_arg2]
/-- The block's own values. -/
theorem read6 (c : Dev nD) (t : Fin grid0.N) (p : Fin 128) (y : Fin 128) :
    iblk m c 6 t (ix3 0 p y) = X2 m c (ix3 (bat t) ⟨(blk t).val * 128 + p.val, by omega⟩ y) := by
  have e : iblk m c 6 t (ix3 0 p y) = V m c main_arg2 (ix3 (bat t) ⟨(blk t).val * 128 + p.val, by omega⟩ y) := by
    blk_point [iblk, idx t, bat, blk]
  rw [e, V_main_arg2]
/-- The values of the block after. -/
theorem read7 (c : Dev nD) (t : Fin grid0.N) (p : Fin 128) (y : Fin 128) :
    iblk m c 7 t (ix3 0 p y) = X2 m c (ix3 (bat t) ⟨min ((blk t).val + 1) 63 * 128 + p.val, by omega⟩ y) := by
  have e : iblk m c 7 t (ix3 0 p y) = V m c main_arg2 (ix3 (bat t) ⟨min ((blk t).val + 1) 63 * 128 + p.val, by omega⟩ y) := by
    blk_point [iblk, idx t, bat, blk]
  rw [e, V_main_arg2]
/-- The sinks. -/
theorem read0 (c : Dev nD) (t : Fin grid0.N) (h : Fin 8) : iblk m c 0 t (ix1 h) = X3 m c (ix1 h) := by
  have e : iblk m c 0 t (ix1 h) = V m c main_arg3 (ix1 h) := by
    blk_point [iblk, idx t, bat, blk]
  rw [e, V_main_arg3]

end Cert.Proof.AttnValue

end
-- ==== Proof.Attn.Tiles.lean ====
/-
  The kernel's key and value tiles and its column bias, entry by entry.
-/
module

public import proofs.«01_k».proof.Proof.Attn.Reads
public import Idealize.ShloMosaic.PureOps.IdealRules

@[expose] public section

set_option maxRecDepth 16384
set_option maxHeartbeats 4000000

noncomputable section

open Idealize.ShloMosaic Idealize.ShloMosaic.TcCoe Idealize.SL.Sem
open Idealize.ShloMosaic.Pipeline (Dat)

namespace Cert.Proof.AttnValue

open Cert.AttnIdeal Cert.AttnIdeal.Gen
open Cert.Proof.AttnRef (rel)
open Cert.Proof.AttnRef (inSeq)

variable (m : (ℓ : Loc nD τ sig) → Buf (Elt Ideal) ℓ)

/-- The second grid coordinate is the block. -/
theorem coord : ∀ t : Fin grid0.N, (grid0.coords t 1).val = t.val % 64 := by
  decide +kernel

/-- The words that tell whether a key of the band lies in the sequence, decided over blocks and keys. -/
theorem inSeq_words : ∀ (n : Fin 64) (j : Fin 384),
    IntOp.andi
      (IntOp.cmpi .sge (BitVec.ofNat 32 j.val) (Scalar.select (Scalar.cmpi .eq (BitVec.ofNat 32 n.val) 0#32) 128#32 0#32))
      (IntOp.cmpi .slt (BitVec.ofNat 32 j.val) (Scalar.select (Scalar.cmpi .eq (BitVec.ofNat 32 n.val) 63#32) 256#32 384#32))
      = if inSeq n j then 1#1 else 0#1 := by
  decide +kernel

/-- The column bias: 0 for a key of the sequence, −∞ for one outside. -/
theorem col_at (t : Fin grid0.N) (j : Fin 384) :
    k0_pay2 (F := Ideal) (grid0.coords t) (ix2 0 j) = if inSeq (blk t) j then 0 else ⊥ := by
  have hn : (Named.named κ "neg" 0xF149F2CA#32 : Ideal .f32) = (⊥ : EReal) :=
    IdealRules.named_const.ideal_named_scalar _ _ _ _ rfl
  have e : k0_pay2 (F := Ideal) (grid0.coords t) (ix2 0 j)
      = Scalar.select
          (IntOp.andi
            (IntOp.cmpi .sge (BitVec.ofNat 32 j.val) (Scalar.select (Scalar.cmpi .eq (BitVec.ofNat 32 (grid0.coords t 1).val) 0#32) 128#32 0#32))
            (IntOp.cmpi .slt (BitVec.ofNat 32 j.val) (Scalar.select (Scalar.cmpi .eq (BitVec.ofNat 32 (grid0.coords t 1).val) 63#32) 256#32 384#32)))
          (Ideal.ofBits .f32 0x00000000#32) (Named.named κ "neg" 0xF149F2CA#32 : Ideal .f32) := by
    unfold k0_pay2
    pointwise
  have z : Ideal.ofBits .f32 0x00000000#32 = 0 := by simp [Ideal.ofBits, Ideal.ieee]
  rw [e, hn, z, coord]
  have w := inSeq_words (blk t) j
  unfold blk at w ⊢
  rw [w]
  by_cases h : inSeq ⟨t.val % 64, Nat.mod_lt _ (by decide)⟩ j <;> simp [h, Scalar.select]

/-- Three blocks one under another, at a row. -/
theorem pay3_at (x y z : Vec Ideal S1x128x128 .bf16) (j : Fin 384) (e : Fin 128) :
    k0_pay3 x y z (ix2 j e)
      = if h : j.val < 128 then x (ix3 0 ⟨j.val, h⟩ e)
        else if h' : j.val - 128 < 128 then y (ix3 0 ⟨j.val - 128, h'⟩ e)
        else z (ix3 0 ⟨j.val - 128 - 128, by omega⟩ e) := by
  unfold k0_pay3
  pointwise

/-- The keys' tile, both heads' columns: a row in the sequence is the argument's. -/
theorem keys_at (c : Dev nD) (t : Fin grid0.N) (j : Fin 384) (e : Fin 128) (h : inSeq (blk t) j) :
    k0_pay3 (F := Ideal) (iblk m c 2 t) (iblk m c 3 t) (iblk m c 4 t) (ix2 j e)
      = X1 m c (ix3 (bat t) ⟨(blk t).val * 128 + j.val - 128, by have := h.1; have := h.2; omega⟩ e) := by
  obtain ⟨h1, h2⟩ := h
  have hb := (blk t).isLt
  rw [pay3_at]
  split_ifs with g1 g2
  · rw [read2]
    exact congrArg _ (congrArg (fun z => ix3 (bat t) z e) (Fin.ext (by dsimp only; omega)))
  · rw [read3]
    exact congrArg _ (congrArg (fun z => ix3 (bat t) z e) (Fin.ext (by dsimp only; omega)))
  · rw [read4]
    exact congrArg _ (congrArg (fun z => ix3 (bat t) z e) (Fin.ext (by dsimp only; omega)))

/-- The first head's columns of the keys' tile. -/
theorem keys0_at (c : Dev nD) (t : Fin grid0.N) (j : Fin 384) (e : Fin 64) (h : inSeq (blk t) j) :
    k0_pay5 (F := Ideal) (iblk m c 2 t) (iblk m c 3 t) (iblk m c 4 t) (ix2 j e)
      = X1 m c (ix3 (bat t) ⟨(blk t).val * 128 + j.val - 128, by have := h.1; have := h.2; omega⟩ ⟨e.val, by omega⟩) := by
  rw [← keys_at m c t j ⟨e.val, by omega⟩ h]
  unfold k0_pay5
  generalize k0_pay3 (F := Ideal) (iblk m c 2 t) (iblk m c 3 t) (iblk m c 4 t) = y
  pointwise

/-- The second head's columns of the keys' tile. -/
theorem keys1_at (c : Dev nD) (t : Fin grid0.N) (j : Fin 384) (e : Fin 64) (h : inSeq (blk t) j) :
    k0_pay16 (k0_pay3 (F := Ideal) (iblk m c 2 t) (iblk m c 3 t) (iblk m c 4 t)) (ix2 j e)
      = X1 m c (ix3 (bat t) ⟨(blk t).val * 128 + j.val - 128, by have := h.1; have := h.2; omega⟩ ⟨64 + e.val, by omega⟩) := by
  rw [← keys_at m c t j ⟨64 + e.val, by omega⟩ h]
  unfold k0_pay16
  generalize k0_pay3 (F := Ideal) (iblk m c 2 t) (iblk m c 3 t) (iblk m c 4 t) = y
  pointwise

/-- Three blocks one under another, at a row. -/
theorem pay4_at (x y z : Vec Ideal S1x128x128 .bf16) (j : Fin 384) (e : Fin 128) :
    k0_pay4 x y z (ix2 j e)
      = if h : j.val < 128 then x (ix3 0 ⟨j.val, h⟩ e)
        else if h' : j.val - 128 < 128 then y (ix3 0 ⟨j.val - 128, h'⟩ e)
        else z (ix3 0 ⟨j.val - 128 - 128, by omega⟩ e) := by
  unfold k0_pay4
  pointwise

/-- The values' tile, both heads' columns: a row in the sequence is the argument's. -/
theorem values_at (c : Dev nD) (t : Fin grid0.N) (j : Fin 384) (e : Fin 128) (h : inSeq (blk t) j) :
    k0_pay4 (F := Ideal) (iblk m c 5 t) (iblk m c 6 t) (iblk m c 7 t) (ix2 j e)
      = X2 m c (ix3 (bat t) ⟨(blk t).val * 128 + j.val - 128, by have := h.1; have := h.2; omega⟩ e) := by
  obtain ⟨h1, h2⟩ := h
  have hb := (blk t).isLt
  rw [pay4_at]
  split_ifs with g1 g2
  · rw [read5]
    exact congrArg _ (congrArg (fun z => ix3 (bat t) z e) (Fin.ext (by dsimp only; omega)))
  · rw [read6]
    exact congrArg _ (congrArg (fun z => ix3 (bat t) z e) (Fin.ext (by dsimp only; omega)))
  · rw [read7]
    exact congrArg _ (congrArg (fun z => ix3 (bat t) z e) (Fin.ext (by dsimp only; omega)))

/-- The first head's columns of the values' tile. -/
theorem values0_at (c : Dev nD) (t : Fin grid0.N) (j : Fin 384) (e : Fin 64) (h : inSeq (blk t) j) :
    k0_pay6 (F := Ideal) (iblk m c 5 t) (iblk m c 6 t) (iblk m c 7 t) (ix2 j e)
      = X2 m c (ix3 (bat t) ⟨(blk t).val * 128 + j.val - 128, by have := h.1; have := h.2; omega⟩ ⟨e.val, by omega⟩) := by
  rw [← values_at m c t j ⟨e.val, by omega⟩ h]
  unfold k0_pay6
  generalize k0_pay4 (F := Ideal) (iblk m c 5 t) (iblk m c 6 t) (iblk m c 7 t) = y
  pointwise

/-- The second head's columns of the values' tile. -/
theorem values1_at (c : Dev nD) (t : Fin grid0.N) (j : Fin 384) (e : Fin 64) (h : inSeq (blk t) j) :
    k0_pay17 (k0_pay4 (F := Ideal) (iblk m c 5 t) (iblk m c 6 t) (iblk m c 7 t)) (ix2 j e)
      = X2 m c (ix3 (bat t) ⟨(blk t).val * 128 + j.val - 128, by have := h.1; have := h.2; omega⟩ ⟨64 + e.val, by omega⟩) := by
  rw [← values_at m c t j ⟨64 + e.val, by omega⟩ h]
  unfold k0_pay17
  generalize k0_pay4 (F := Ideal) (iblk m c 5 t) (iblk m c 6 t) (iblk m c 7 t) = y
  pointwise

end Cert.Proof.AttnValue

end
-- ==== Proof.Attn.Bias.lean ====
/-
  The bias table that the host builds before the attention call, entry by entry.
-/
module

public import proofs.«01_k».proof.Proof.Gen.AttnIdeal.Value
public import proofs.«01_k».proof.Proof.Attn.Reads
public import Idealize.ShloMosaic.Lib.StableHlo.RunRead
public import Idealize.ShloMosaic.Lib.Pointwise
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)

namespace Cert.Proof.AttnValue

open Cert.AttnIdeal Cert.AttnIdeal.Gen
open Cert.Proof.AttnRef (rel)

variable (m : (ℓ : Loc nD τ sig) → Buf (Elt Ideal) ℓ)

/-- The distances of a block's queries and keys, as words. -/
def dist : IVec S128x384 32 :=
  absi (subi
    (broadcastInDim S128x384 ![0, 1] bcast_S1x384_S128x384_0_1
      (subi (broadcastInDim S1x384 ![1] bcast_S384_S1x384_1 (iotaInDim S384 32 0))
        (broadcastInDim S1x384 ![] bcast_S_S1x384 (constantI S_ 32 128#32))))
    (broadcastInDim S128x384 ![0, 1] bcast_S128x1_S128x384_0_1
      (broadcastInDim S128x1 ![0] bcast_S128_S128x1_0 (iotaInDim S128 32 0))))

/-- The heads' slopes. -/
def slopes : FVec Ideal S8 .f32 :=
  Host.powf (broadcastInDim S8 ![] bcast_S_S8 (constant S_ FTy.f32 0x40000000#32))
    (Host.divf
      (mulf (broadcastInDim S8 ![] bcast_S_S8 (constant S_ FTy.f32 0xC1000000#32))
        (addf (broadcastInDim S8 ![] bcast_S_S8 (constant S_ FTy.f32 0x3F800000#32)) (sitofp (F := Ideal) FTy.f32 (iotaInDim S8 32 0))))
      (broadcastInDim S8 ![] bcast_S_S8 (constant S_ FTy.f32 0x41000000#32)))

/-- The table: minus the slope times the distance within the window, −∞ outside. -/
def table : FVec Ideal S8x128x384 .f32 :=
  select
    (broadcastInDim S8x128x384 ![0, 1, 2] bcast_S1x128x384_S8x128x384_0_1_2
      (cmpf (F := Ideal) CmpFPredicate.ole
        (broadcastInDim S1x128x384 ![1, 2] bcast_S128x384_S1x128x384_1_2 (sitofp (F := Ideal) FTy.f32 dist))
        (broadcastInDim S1x128x384 ![] bcast_S_S1x128x384 (constant S_ FTy.f32 0x43000000#32))))
    (mulf
      (broadcastInDim S8x128x384 ![0, 1, 2] bcast_S8x1x1_S8x128x384_0_1_2
        (Host.negf (broadcastInDim S8x1x1 ![0] bcast_S8_S8x1x1_0 slopes)))
      (broadcastInDim S8x128x384 ![0, 1, 2] bcast_S1x128x384_S8x128x384_0_1_2
        (broadcastInDim S1x128x384 ![1, 2] bcast_S128x384_S1x128x384_1_2 (sitofp (F := Ideal) FTy.f32 dist))))
    (broadcastInDim S8x128x384 ![] bcast_S_S8x128x384 (constant S_ FTy.f32 0xFF800000#32))

/-- The host's operations before the call leave the table in the bias operand. -/
theorem V29 (c : Dev nD) : V m c main_v29 = table := by
  show StableHlo.after (List.flatten [hostOps0, hostOps0_1]) (fun b => m (c, b)) (Proc.devRef .tc main_v29) = table
  simp only [hostOps0, hostOps0_1, List.flatten_cons, List.flatten_nil, List.append_nil, List.cons_append, List.nil_append]
  after_reads_simp
  rfl

/-- A distance. -/
theorem dist_at (p : Fin 128) (j : Fin 384) : dist (ix2 p j) = rel p j := by
  unfold dist rel
  pointwise

/-- An entry of the table. -/
theorem table_at (h : Fin 8) (p : Fin 128) (j : Fin 384) :
    table (ix3 h p j)
      = Scalar.select (FloatOps.cmpf .ole (FloatOps.sitofp (F := Ideal) .f32 (rel p j)) (Ideal.ofBits .f32 0x43000000#32 : Ideal .f32))
          (-slopes (ix1 h) * FloatOps.sitofp (F := Ideal) .f32 (rel p j)) (Ideal.ofBits .f32 0xFF800000#32) := by
  unfold table
  rw [← dist_at]
  generalize dist = D
  generalize slopes = S
  pointwise

/-- The bias window's block. -/
theorem read8 (c : Dev nD) (t : Fin grid0.N) (h : Fin 8) (p : Fin 128) (j : Fin 384) :
    iblk m c 8 t (ix3 h p j) = table (ix3 h p j) := by
  have e : iblk m c 8 t (ix3 h p j) = V m c main_v29 (ix3 h p j) := by
    blk_point [iblk, idx t, bat, blk]
  rw [e, V29]

end Cert.Proof.AttnValue

end
-- ==== Proof.Attn.Soft.lean ====
/-
  A softmax with a sink over the 384 keys of a block, in extended reals: dividing the weighted sum by
  the denominator is the same as dividing each weight, whenever no score is +∞ and the sink is real.
-/
module

public import Idealize.ShloMosaic.Lib.Pointwise

@[expose] public section

noncomputable section

open Idealize.ShloMosaic

namespace Cert.Proof.AttnSoft

/-- The largest of the scores and of the sink. -/
def top (s : Fin 384 → EReal) (k : EReal) : EReal := max (Finset.univ.fold max ⊥ s) k

/-- The weights' sum, the sink's weight among them. -/
def den (s : Fin 384 → EReal) (k : EReal) : EReal :=
  (∑ j, Ideal.exp (s j - top s k)) + Ideal.exp (k - top s k)

/-- An exponential is not negative. -/
theorem exp_pos_or (x : EReal) : 0 ≤ Ideal.exp x := by
  induction x with
  | bot => simp
  | top => exact le_top
  | coe r => rw [Ideal.exp_coe]; exact_mod_cast (Real.exp_pos r).le

/-- A fold of maxima is one of the folded values, or the value it starts from. -/
theorem fold_mem (s : Fin 384 → EReal) (S : Finset (Fin 384)) :
    S.fold max ⊥ s = ⊥ ∨ ∃ j, S.fold max ⊥ s = s j := by
  classical
  induction S using Finset.induction_on with
  | empty => left; rfl
  | insert a S ha ih =>
    rw [Finset.fold_insert ha]
    rcases max_choice (s a) (S.fold max ⊥ s) with h | h
    · exact .inr ⟨a, h⟩
    · rw [h]; exact ih

/-- The largest is a score or the sink. -/
theorem top_mem (s : Fin 384 → EReal) (k : EReal) : top s k = k ∨ ∃ j, top s k = s j := by
  unfold top
  rcases max_choice (Finset.univ.fold max ⊥ s) k with h | h
  · rw [h]
    rcases fold_mem s Finset.univ with h' | h'
    · left
      rw [h'] at h ⊢
      have := max_eq_left_iff.1 h
      exact (le_bot_iff.1 this).symm
    · exact .inr h'
  · exact .inl h

/-- With a real sink and no score +∞, the largest is real. -/
theorem top_real (s : Fin 384 → EReal) (k : ℝ) (hs : ∀ j, s j ≠ ⊤) : ∃ r : ℝ, top s k = r := by
  have h1 : (k : EReal) ≤ top s k := le_max_right _ _
  have h2 : top s k ≠ ⊤ := by
    rcases top_mem s k with h | ⟨j, h⟩
    · rw [h]; exact EReal.coe_ne_top k
    · rw [h]; exact hs j
  have h3 : top s k ≠ ⊥ := fun h => by rw [h, le_bot_iff] at h1; exact EReal.coe_ne_bot k h1
  exact ⟨(top s k).toReal, (EReal.coe_toReal h2 h3).symm⟩

/-- One weight is 1, so the weights' sum is at least 1. -/
theorem one_le_den (s : Fin 384 → EReal) (k : ℝ) (hs : ∀ j, s j ≠ ⊤) : 1 ≤ den s k := by
  obtain ⟨r, hr⟩ := top_real s k hs
  have one : Ideal.exp ((r : EReal) - r) = 1 := by
    rw [← EReal.coe_sub, Ideal.exp_coe, sub_self, Real.exp_zero]; rfl
  unfold den
  rcases top_mem s k with h | ⟨j, h⟩
  · have : Ideal.exp ((k : EReal) - top s k) = 1 := by
      have hk : (k : EReal) = r := h.symm.trans hr
      rw [hr, hk, one]
    rw [this]
    exact le_add_of_nonneg_left (Finset.sum_nonneg fun j _ => exp_pos_or _)
  · have e : Ideal.exp (s j - top s k) = 1 := by rw [← h, hr, one]
    calc (1 : EReal) = Ideal.exp (s j - top s k) := e.symm
      _ ≤ ∑ j, Ideal.exp (s j - top s k) :=
        Finset.single_le_sum (f := fun j => Ideal.exp (s j - top s k)) (fun j _ => exp_pos_or _) (Finset.mem_univ j)
      _ ≤ _ := le_add_of_nonneg_right (exp_pos_or _)

/-- A score of −∞ has weight 0. -/
theorem weight_bot (s : Fin 384 → EReal) (k : ℝ) (hs : ∀ j, s j ≠ ⊤) (j : Fin 384) (h : s j = ⊥) :
    Ideal.exp (s j - top s k) = 0 := by
  obtain ⟨r, hr⟩ := top_real s k hs
  rw [h, hr, EReal.bot_sub, Ideal.exp_bot]

/-- A sum times a factor that is not negative and not +∞ is the sum of the products. -/
theorem sum_mul_of (f : Fin 384 → EReal) (c : EReal) (h0 : 0 ≤ c) (h1 : c ≠ ⊤) (S : Finset (Fin 384)) :
    (∑ j ∈ S, f j) * c = ∑ j ∈ S, f j * c := by
  classical
  induction S using Finset.induction_on with
  | empty => simp
  | insert a S ha ih =>
    rw [Finset.sum_insert ha, Finset.sum_insert ha, ← ih, EReal.right_distrib_of_nonneg_of_ne_top h0 h1]

/-- Dividing the weighted sum of the values is weighting them by the divided weights; values under a
    score of −∞ do not matter. -/
theorem attend_eq (s : Fin 384 → EReal) (k : ℝ) (v v' : Fin 384 → EReal) (hs : ∀ j, s j ≠ ⊤)
    (hv : ∀ j, s j ≠ ⊥ → v j = v' j) :
    Ideal.div (∑ j, Ideal.exp (s j - top s k) * v j) (den s k)
      = ∑ j, v' j * Ideal.div (Ideal.exp (s j - top s k)) (den s k) := by
  have h1 := one_le_den s k hs
  have h0 : den s k ≠ 0 := fun h => by rw [h] at h1; exact absurd h1 (by norm_num)
  have hp : 0 < den s k := lt_of_lt_of_le (by norm_num) h1
  simp only [Ideal.div, if_neg h0]
  rw [sum_mul_of _ _ (EReal.inv_nonneg_of_nonneg hp.le) (EReal.inv_lt_top _).ne]
  refine Finset.sum_congr rfl fun j _ => ?_
  by_cases hj : s j = ⊥
  · rw [weight_bot s k hs j hj]; simp
  · rw [hv j hj, mul_comm (Ideal.exp _), mul_assoc]

end Cert.Proof.AttnSoft

end
-- ==== Proof.Attn.Ref.lean ====
/-
  The attention reference read entry by entry.
-/
module

public import proofs.«01_k».proof.Proof.Gen.AttnRefIdeal.Read
public import proofs.«01_k».proof.Proof.Attn.Soft
public import Idealize.ShloMosaic.Lib.Pointwise
public import Idealize.ShloMosaic.Lib.Pipeline.ValueKit

@[expose] public section

set_option maxRecDepth 16384
set_option maxHeartbeats 4000000

noncomputable section

open Idealize.ShloMosaic Idealize.ShloMosaic.TcCoe Idealize.SL.Sem

namespace Cert.Proof.AttnRef

open Cert.AttnRefIdeal
open Cert.AttnRefIdeal.Read
open Cert.Proof.AttnSoft (top den)

/-- The queries' array. -/
abbrev Qc := (⟨S4x8192x512, .bf16⟩ : BufTy).Contents (Elt Ideal)
/-- The keys' array, and the values'. -/
abbrev Kc := (⟨S4x8192x128, .bf16⟩ : BufTy).Contents (Elt Ideal)
/-- The sinks' array. -/
abbrev Sc := (⟨S8, .f32⟩ : BufTy).Contents (Elt Ideal)

/-- The scores of one query: 384 keys, those outside the window or the sequence at −∞. -/
def S (q : Qc) (k : Kc) (b : Fin 4) (n : Fin 64) (u : Fin 2) (g : Fin 4) (p : Fin 128) (j : Fin 384) : EReal :=
  val_main_v74 (F := Ideal) q k (ix6 b n u g p j)

/-- The sink of a head. -/
def K (s : Sc) (u : Fin 2) (g : Fin 4) : EReal := s (ix1 ⟨u.val * 4 + g.val, by omega⟩)

/-- The row maximum over the keys is a fold over the last coordinate. -/
theorem v77_at (q : Qc) (k : Kc) (b : Fin 4) (n : Fin 64) (u : Fin 2) (g : Fin 4) (p : Fin 128) :
    val_main_v77 (F := Ideal) q k (ix5 b n u g p) = Finset.univ.fold max ⊥ (S q k b n u g p) := by
  unfold val_main_v77 S
  generalize val_main_v74 (F := Ideal) q k = y
  refine (Host.reduce_eq_fold_single (max : EReal → EReal → EReal) y (val_main_cst_11 (F := Ideal))
    Gen.reducesTo_S4x64x2x4x128x384_S4x64x2x4x128_d5 (by decide) Gen.h_S_ (ix5 b n u g p)).trans ?_
  have e0 : (val_main_cst_11 (F := Ideal)) (Shape.Idx.first Gen.h_S_) = (⊥ : EReal) := by
    show Ideal.ofBits .f32 0xFF800000#32 = ⊥
    simp [Ideal.ofBits, Ideal.ieee]
  rw [e0]
  refine congrArg (Finset.univ.fold max ⊥) (funext fun j => congrArg y (funext fun a => Fin.ext ?_))
  match a with | ⟨0, _⟩ => rfl | ⟨1, _⟩ => rfl | ⟨2, _⟩ => rfl | ⟨3, _⟩ => rfl | ⟨4, _⟩ => rfl | ⟨5, _⟩ => rfl

/-- The sink, broadcast. -/
theorem v79_at (s : Sc) (b : Fin 4) (n : Fin 64) (u : Fin 2) (g : Fin 4) (p : Fin 128) (z : Fin 1) :
    val_main_v79 (F := Ideal) s (ix6 b n u g p z) = K s u g := by
  unfold K; pointwise [val_main_v79, val_main_v76, val_main_v75]

/-- The same sink at the denominator. -/
theorem v86_at (s : Sc) (b : Fin 4) (n : Fin 64) (u : Fin 2) (g : Fin 4) (p : Fin 128) (z : Fin 1) :
    val_main_v86 (F := Ideal) s (ix6 b n u g p z) = K s u g := by
  unfold K; pointwise [val_main_v86, val_main_v76, val_main_v75]

/-- The largest of the scores and the sink. -/
theorem v80_at (q : Qc) (k : Kc) (s : Sc) (b : Fin 4) (n : Fin 64) (u : Fin 2) (g : Fin 4) (p : Fin 128) (z : Fin 1) :
    val_main_v80 (F := Ideal) q k s (ix6 b n u g p z) = top (S q k b n u g p) (K s u g) := by
  have e : idx_main_v78 (ix6 b n u g p z) = ix5 b n u g p := by
    funext a
    match a with | ⟨0, _⟩ => rfl | ⟨1, _⟩ => rfl | ⟨2, _⟩ => rfl | ⟨3, _⟩ => rfl | ⟨4, _⟩ => rfl
  rw [val_main_v80_apply, val_main_v78_apply, e, v77_at, v79_at, Ideal.maximumf_def]
  unfold top
  rfl

/-- A weight. -/
theorem v83_at (q : Qc) (k : Kc) (s : Sc) (b : Fin 4) (n : Fin 64) (u : Fin 2) (g : Fin 4) (p : Fin 128) (j : Fin 384) :
    val_main_v83 (F := Ideal) q k s (ix6 b n u g p j)
      = Ideal.exp (S q k b n u g p j - top (S q k b n u g p) (K s u g)) := by
  pointwise [val_main_v83, val_main_v82, val_main_v81]
  simp only [v80_at]
  rfl

/-- The weights' sum over the keys. -/
theorem v84_at (q : Qc) (k : Kc) (s : Sc) (b : Fin 4) (n : Fin 64) (u : Fin 2) (g : Fin 4) (p : Fin 128) :
    val_main_v84 (F := Ideal) q k s (ix5 b n u g p)
      = ∑ j, Ideal.exp (S q k b n u g p j - top (S q k b n u g p) (K s u g)) := by
  rw [val_main_v84_apply]
  have e0 : (val_main_cst_12 (F := Ideal)) (Shape.Idx.first Gen.h_S_) = (0 : EReal) := by
    pointwise [val_main_cst_12]
  rw [e0, zero_add]
  refine Finset.sum_congr rfl fun j _ => (congrArg _ (funext fun a => Fin.ext ?_)).trans (v83_at q k s b n u g p j)
  match a with | ⟨0, _⟩ => rfl | ⟨1, _⟩ => rfl | ⟨2, _⟩ => rfl | ⟨3, _⟩ => rfl | ⟨4, _⟩ => rfl | ⟨5, _⟩ => rfl

/-- The denominator. -/
theorem v89_at (q : Qc) (k : Kc) (s : Sc) (b : Fin 4) (n : Fin 64) (u : Fin 2) (g : Fin 4) (p : Fin 128) (z : Fin 1) :
    val_main_v89 (F := Ideal) q k s (ix6 b n u g p z) = den (S q k b n u g p) (K s u g) := by
  pointwise [val_main_v89, val_main_v88, val_main_v87, val_main_v85]
  simp only [v84_at, v86_at, v80_at]
  rfl

/-- A weight, divided. -/
theorem v91_at (q : Qc) (k : Kc) (s : Sc) (b : Fin 4) (n : Fin 64) (u : Fin 2) (g : Fin 4) (p : Fin 128) (j : Fin 384) :
    val_main_v91 (F := Ideal) q k s (ix6 b n u g p j)
      = Ideal.div (Ideal.exp (S q k b n u g p j - top (S q k b n u g p) (K s u g))) (den (S q k b n u g p) (K s u g)) := by
  pointwise [val_main_v91, val_main_v90]
  simp only [v83_at, v89_at]

/-- The reference's output at one entry. -/
theorem v95_at (q : Qc) (k v : Kc) (s : Sc) (b : Fin 4) (n : Fin 64) (p : Fin 128) (u : Fin 2) (g : Fin 4) (d : Fin 64) :
    val_main_v95 (F := Ideal) q k v s (ix3 b ⟨n.val * 128 + p.val, by omega⟩ ⟨(u.val * 4 + g.val) * 64 + d.val, by omega⟩)
      = ∑ j, val_main_v17 (F := Ideal) v (ix5 b n j u d)
          * Ideal.div (Ideal.exp (S q k b n u g p j - top (S q k b n u g p) (K s u g))) (den (S q k b n u g p) (K s u g)) := by
  have e94 : val_main_v95 (F := Ideal) q k v s (ix3 b ⟨n.val * 128 + p.val, by omega⟩ ⟨(u.val * 4 + g.val) * 64 + d.val, by omega⟩)
      = val_main_v92 (F := Ideal) q k v s (ix6 b n u d g p) := by
    pointwise [val_main_v95, val_main_v94, val_main_v93]
  rw [e94, val_main_v92_apply]
  refine Finset.sum_congr rfl fun j _ => ?_
  rw [← v91_at]
  refine congrArg₂ (· * ·) (congrArg _ (funext fun a => Fin.ext ?_)) (congrArg _ (funext fun a => Fin.ext ?_))
  · match a with | ⟨0, _⟩ => rfl | ⟨1, _⟩ => rfl | ⟨2, _⟩ => rfl | ⟨3, _⟩ => rfl | ⟨4, _⟩ => rfl
  · match a with | ⟨0, _⟩ => rfl | ⟨1, _⟩ => rfl | ⟨2, _⟩ => rfl | ⟨3, _⟩ => rfl | ⟨4, _⟩ => rfl | ⟨5, _⟩ => rfl

end Cert.Proof.AttnRef

end
-- ==== Proof.Attn.Score.lean ====
/-
  The reference's scores: which keys are seen, and what a seen key's score and value are.
-/
module

public import proofs.«01_k».proof.Proof.Attn.Ref
public import proofs.«01_k».proof.Proof.Attn.Words

@[expose] public section

set_option maxRecDepth 16384
set_option maxHeartbeats 4000000

noncomputable section

open Idealize.ShloMosaic Idealize.ShloMosaic.TcCoe Idealize.SL.Sem

namespace Cert.Proof.AttnRef

open Cert.AttnRefIdeal
open Cert.AttnRefIdeal.Read

/-- The reference's mask. -/
theorem mask_at (b : Fin 4) (n : Fin 64) (u : Fin 2) (g : Fin 4) (p : Fin 128) (j : Fin 384) :
    val_main_call2_v1 (F := Ideal) (ix6 b n u g p j)
      = IntOp.andi (IntOp.andi (IntOp.cmpi .sle (rel p j) 128#32)
          (IntOp.cmpi .sge (IntOp.addi (IntOp.subi (IntOp.muli (BitVec.ofNat 32 n.val) 128#32) 128#32) (BitVec.ofNat 32 j.val)) 0#32))
          (IntOp.cmpi .slt (IntOp.addi (IntOp.subi (IntOp.muli (BitVec.ofNat 32 n.val) 128#32) 128#32) (BitVec.ofNat 32 j.val)) 8192#32) := by
  unfold rel
  pointwise [val_main_call2_v1, val_main_v70, val_main_v51, val_main_v50, val_main_v49, val_main_v48, val_main_c_6, val_main_v47, val_main_v46, val_main_v45, val_main_v44, val_main_v43, val_main_c_5, val_main_v42, val_main_v41, val_main_v40, val_main_c_4, val_main_v39, val_main_v38, val_main_v37, val_main_v36, val_main_v35, val_main_v34, val_main_v33, val_main_c_3, val_main_v32, val_main_v31, val_main_c_2, val_main_v30, val_main_v29, val_main_v28, val_main_v27, val_main_v26, val_main_v25, val_main_v24, val_main_v23, val_main_v22, val_main_v21, val_main_v20, val_main_c_1]

/-- The mask is 1 just when the key is seen. -/
theorem mask_eq (b : Fin 4) (n : Fin 64) (u : Fin 2) (g : Fin 4) (p : Fin 128) (j : Fin 384) :
    val_main_call2_v1 (F := Ideal) (ix6 b n u g p j) = if inBand p j ∧ inSeq n j then 1#1 else 0#1 := by
  have a : ∀ x y z : BitVec 1, IntOp.andi (IntOp.andi x y) z = IntOp.andi x (IntOp.andi y z) := by decide
  rw [mask_at, a, pos_at, rel_le]
  by_cases h1 : inBand p j <;> by_cases h2 : inSeq n j <;> simp [h1, h2] <;> decide

/-- A key of the band, in the sequence. -/
theorem key_in (k : Kc) (b : Fin 4) (n : Fin 64) (j : Fin 384) (u : Fin 2) (d : Fin 64) (h : inSeq n j) :
    val_main_v11 (F := Ideal) k (ix5 b n j u d)
      = k (ix3 b ⟨n.val * 128 + j.val - 128, by have := h.1; have := h.2; omega⟩ ⟨u.val * 64 + d.val, by omega⟩) := by
  obtain ⟨h1, h2⟩ := h
  pointwise [val_main_v11, val_main_v10, val_main_v9, val_main_v8, val_main_v7, val_main_v6, val_main_call0_v0, val_main_c, val_main_v4, val_main_v1]
  split_ifs <;> first | omega | exact congrArg _ (congrArg (fun z => ix3 b z _) (Fin.ext (by dsimp only <;> omega)))

/-- A value of the band, in the sequence. -/
theorem value_in (v : Kc) (b : Fin 4) (n : Fin 64) (j : Fin 384) (u : Fin 2) (d : Fin 64) (h : inSeq n j) :
    val_main_v17 (F := Ideal) v (ix5 b n j u d)
      = v (ix3 b ⟨n.val * 128 + j.val - 128, by have := h.1; have := h.2; omega⟩ ⟨u.val * 64 + d.val, by omega⟩) := by
  obtain ⟨h1, h2⟩ := h
  pointwise [val_main_v17, val_main_v16, val_main_v15, val_main_v14, val_main_v13, val_main_v12, val_main_call1_v0, val_main_c_0, val_main_v5, val_main_v2]
  split_ifs <;> first | omega | exact congrArg _ (congrArg (fun z => ix3 b z _) (Fin.ext (by dsimp only <;> omega)))

/-- The products of query and key. -/
theorem dot_at (q : Qc) (k : Kc) (b : Fin 4) (n : Fin 64) (u : Fin 2) (g : Fin 4) (p : Fin 128) (j : Fin 384) (h : inSeq n j) :
    val_main_v19 (F := Ideal) q k (ix6 b n u g p j)
      = ∑ x : Fin 64, k (ix3 b ⟨n.val * 128 + j.val - 128, by have := h.1; have := h.2; omega⟩ ⟨u.val * 64 + x.val, by omega⟩)
          * q (ix3 b ⟨n.val * 128 + p.val, by omega⟩ ⟨(u.val * 4 + g.val) * 64 + x.val, by omega⟩) := by
  have e : val_main_v19 (F := Ideal) q k (ix6 b n u g p j) = val_main_v18 (F := Ideal) q k (ix6 b n u j p g) := by
    pointwise [val_main_v19]
  rw [e, val_main_v18_apply]
  refine Finset.sum_congr rfl fun x _ => ?_
  rw [← key_in k b n j u x h]
  have e3 : val_main_v3 (F := Ideal) q (ix6 b n p u g x)
      = q (ix3 b ⟨n.val * 128 + p.val, by omega⟩ ⟨(u.val * 4 + g.val) * 64 + x.val, by omega⟩) := by
    pointwise [val_main_v3, val_main_v0]
    exact congrArg _ (congrArg (fun z => ix3 b _ z) (Fin.ext (by dsimp only <;> omega)))
  rw [← e3]
  refine congrArg₂ (· * ·) (congrArg _ (funext fun a => Fin.ext ?_)) (congrArg _ (funext fun a => Fin.ext ?_))
  · match a with | ⟨0, _⟩ => rfl | ⟨1, _⟩ => rfl | ⟨2, _⟩ => rfl | ⟨3, _⟩ => rfl | ⟨4, _⟩ => rfl
  · match a with | ⟨0, _⟩ => rfl | ⟨1, _⟩ => rfl | ⟨2, _⟩ => rfl | ⟨3, _⟩ => rfl | ⟨4, _⟩ => rfl | ⟨5, _⟩ => rfl

/-- The distance's slope of a head. -/
theorem alibi_at (b : Fin 4) (n : Fin 64) (u : Fin 2) (g : Fin 4) (p : Fin 128) (j : Fin 384) :
    val_main_v72 (F := Ideal) (ix6 b n u g p j)
      = -val_main_v60 (F := Ideal) (ix1 ⟨u.val * 4 + g.val, by omega⟩) * FloatOps.sitofp (F := Ideal) .f32 (rel p j) := by
  unfold rel
  pointwise [val_main_v72, val_main_v71, val_main_v69, val_main_v68, val_main_v67, val_main_v66, val_main_v65, val_main_v64, val_main_v63, val_main_v62, val_main_v61, val_main_v28, val_main_v27, val_main_v26, val_main_v25, val_main_v24, val_main_v23, val_main_v22, val_main_v21, val_main_v20, val_main_c_1]

/-- The score of a key that is seen. -/
theorem S_seen (q : Qc) (k : Kc) (b : Fin 4) (n : Fin 64) (u : Fin 2) (g : Fin 4) (p : Fin 128) (j : Fin 384)
    (hb : inBand p j) (hs : inSeq n j) :
    S q k b n u g p j
      = (∑ x : Fin 64, k (ix3 b ⟨n.val * 128 + j.val - 128, by have := hs.1; have := hs.2; omega⟩ ⟨u.val * 64 + x.val, by omega⟩)
          * q (ix3 b ⟨n.val * 128 + p.val, by omega⟩ ⟨(u.val * 4 + g.val) * 64 + x.val, by omega⟩))
        + -val_main_v60 (F := Ideal) (ix1 ⟨u.val * 4 + g.val, by omega⟩) * FloatOps.sitofp (F := Ideal) .f32 (rel p j) := by
  unfold S
  rw [val_main_v74_apply, mask_eq, if_pos ⟨hb, hs⟩, ← dot_at q k b n u g p j hs, ← alibi_at b n u g p j]
  rfl

/-- The score of a key that is not seen is −∞. -/
theorem S_unseen (q : Qc) (k : Kc) (b : Fin 4) (n : Fin 64) (u : Fin 2) (g : Fin 4) (p : Fin 128) (j : Fin 384)
    (h : ¬ (inBand p j ∧ inSeq n j)) : S q k b n u g p j = ⊥ := by
  unfold S
  rw [val_main_v74_apply, mask_eq, if_neg h]
  show val_main_call2_v2 (F := Ideal) (ix6 b n u g p j) = ⊥
  pointwise [val_main_call2_v2, val_main_call2_v0, val_main_cst_10]
  show Ideal.ofBits .f32 0xFF800000#32 = ⊥
  simp [Ideal.ofBits, Ideal.ieee]

end Cert.Proof.AttnRef

end
-- ==== Proof.Attn.Table.lean ====
/-
  The bias table in the reference's terms: minus the slope times the distance inside the band, −∞
  outside it; and the slopes and distances are real numbers.
-/
module

public import proofs.«01_k».proof.Proof.Attn.Bias
public import proofs.«01_k».proof.Proof.Attn.Score

@[expose] public section

set_option maxRecDepth 16384
set_option maxHeartbeats 4000000

noncomputable section

open Idealize.ShloMosaic Idealize.ShloMosaic.TcCoe Idealize.SL.Sem
open Idealize.ShloMosaic.Pipeline (Dat)

namespace Cert.Proof.AttnValue

open Cert.AttnIdeal Cert.AttnIdeal.Gen
open Cert.Proof.AttnRef (rel)
open Cert.Proof.AttnRef (inBand rel_le)
open Cert.AttnRefIdeal.Read

/-- The kernel's slopes are the reference's. -/
theorem slopes_eq (h : Fin 8) : slopes (ix1 h) = val_main_v60 (F := Ideal) (ix1 h) := by
  unfold slopes
  pointwise [val_main_v60, val_main_v59, val_main_v58, val_main_v57, val_main_v56, val_main_v55, val_main_v54, val_main_v53, val_main_v52, val_main_cst, val_main_cst_7, val_main_cst_8, val_main_cst_9]

/-- The words compare as the distances they are read as. -/
theorem sitofp_ole (w : BitVec 32) :
    FloatOps.cmpf .ole (FloatOps.sitofp (F := Ideal) .f32 w) (Ideal.ofBits .f32 0x43000000#32 : Ideal .f32)
      = IntOp.cmpi .sle w 128#32 := by
  have e : Ideal.ofBits .f32 0x43000000#32 = (((128#32 : BitVec 32).toInt : ℝ) : EReal) := by
    have h : (128#32 : BitVec 32).toInt = 128 := by decide
    rw [h]
    simp [Ideal.ofBits, Ideal.ieee]
    rw [← EReal.coe_mul]
    norm_num
  rw [e]
  by_cases h : w.toInt ≤ (128#32 : BitVec 32).toInt
  · have h' : ((w.toInt : ℝ) : EReal) ≤ (((128#32 : BitVec 32).toInt : ℝ) : EReal) := by exact_mod_cast h
    have a : FloatOps.cmpf .ole (FloatOps.sitofp (F := Ideal) .f32 w) ((((128#32 : BitVec 32).toInt : ℝ) : EReal) : Ideal .f32) = 1#1 := by
      show BitVec.ofBool (decide (((w.toInt : ℝ) : EReal) ≤ (((128#32 : BitVec 32).toInt : ℝ) : EReal))) = 1#1
      rw [decide_eq_true h']
      rfl
    rw [a]
    show _ = BitVec.ofBool (decide (w.toInt ≤ (128#32 : BitVec 32).toInt))
    simp only [h]
    rfl
  · have h' : ¬ ((w.toInt : ℝ) : EReal) ≤ (((128#32 : BitVec 32).toInt : ℝ) : EReal) := by exact_mod_cast h
    have a : FloatOps.cmpf .ole (FloatOps.sitofp (F := Ideal) .f32 w) ((((128#32 : BitVec 32).toInt : ℝ) : EReal) : Ideal .f32) = 0#1 := by
      show BitVec.ofBool (decide (((w.toInt : ℝ) : EReal) ≤ (((128#32 : BitVec 32).toInt : ℝ) : EReal))) = 0#1
      rw [decide_eq_false h']
      rfl
    rw [a]
    show _ = BitVec.ofBool (decide (w.toInt ≤ (128#32 : BitVec 32).toInt))
    simp only [h]
    rfl

/-- The table inside the band. -/
theorem table_in (h : Fin 8) (p : Fin 128) (j : Fin 384) (hb : inBand p j) :
    table (ix3 h p j) = -val_main_v60 (F := Ideal) (ix1 h) * FloatOps.sitofp (F := Ideal) .f32 (rel p j) := by
  rw [table_at, sitofp_ole, rel_le, if_pos hb, slopes_eq]
  rfl

/-- The table outside the band. -/
theorem table_out (h : Fin 8) (p : Fin 128) (j : Fin 384) (hb : ¬ inBand p j) : table (ix3 h p j) = ⊥ := by
  rw [table_at, sitofp_ole, rel_le, if_neg hb]
  show Ideal.ofBits .f32 0xFF800000#32 = ⊥
  simp [Ideal.ofBits, Ideal.ieee]

/-- A slope is a real number. -/
theorem slope_real (h : Fin 8) : ∃ r : ℝ, val_main_v60 (F := Ideal) (ix1 h) = (r : EReal) := by
  have e : val_main_v60 (F := Ideal) (ix1 h)
      = Ideal.pow (Ideal.ofBits .f32 0x40000000#32)
          (Ideal.div (Ideal.ofBits .f32 0xC1000000#32
              * (Ideal.ofBits .f32 0x3F800000#32 + FloatOps.sitofp (F := Ideal) .f32 (BitVec.ofNat 32 h.val)))
            (Ideal.ofBits .f32 0x41000000#32)) := by
    pointwise [val_main_v60, val_main_v59, val_main_v58, val_main_v57, val_main_v56, val_main_v55, val_main_v54, val_main_v53, val_main_v52, val_main_cst, val_main_cst_7, val_main_cst_8, val_main_cst_9]
  have c2 : Ideal.ofBits .f32 0x40000000#32 = ((2 : ℝ) : EReal) := by
    simp [Ideal.ofBits, Ideal.ieee]
    rw [← EReal.coe_mul]
    norm_num
  have c8 : Ideal.ofBits .f32 0x41000000#32 = ((8 : ℝ) : EReal) := by
    simp [Ideal.ofBits, Ideal.ieee]
    rw [← EReal.coe_mul]
    norm_num
  have cm : Ideal.ofBits .f32 0xC1000000#32 = ((-8 : ℝ) : EReal) := by
    simp [Ideal.ofBits, Ideal.ieee]
    rw [← EReal.coe_mul]
    norm_num
  have c1 : Ideal.ofBits .f32 0x3F800000#32 = ((1 : ℝ) : EReal) := by
    simp [Ideal.ofBits, Ideal.ieee]
    rw [← EReal.coe_mul]
    norm_num
  have hs : FloatOps.sitofp (F := Ideal) .f32 (BitVec.ofNat 32 h.val) = (((BitVec.ofNat 32 h.val).toInt : ℝ) : EReal) := rfl
  rw [e, c2, c8, cm, c1, hs]
  rw [Ideal.div, if_neg (by norm_num), ← EReal.coe_add, ← EReal.coe_mul, ← EReal.coe_inv, ← EReal.coe_mul]
  exact ⟨_, rfl⟩

end Cert.Proof.AttnValue

end
-- ==== Proof.Attn.Head.lean ====
/-
  One head of the attention kernel, entry by entry, and the block of all eight.
-/
module

public import proofs.«01_k».proof.Proof.Gen.AttnIdeal.Value
public import proofs.«01_k».proof.Proof.Attn.Soft
public import Idealize.ShloMosaic.Lib.Pointwise
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)

namespace Cert.Proof.AttnValue

open Cert.AttnIdeal Cert.AttnIdeal.Gen
open Cert.Proof.AttnSoft (top den)

/-- One head's scores in the kernel. -/
def score (C : FVec Ideal S1x384 .f32) (kk : FVec Ideal S384x64 .bf16) (qh : Vec Ideal S1x128x64 .bf16)
    (B : Vec Ideal S1x128x384 .f32) (p : Fin 128) (j : Fin 384) : EReal :=
  (∑ e : Fin 64, qh (ix3 0 p e) * kk (ix2 j e)) + B (ix3 0 p j) + C (ix2 0 j)

/-- The head's score tile. -/
theorem pay8_at (C : FVec Ideal S1x384 .f32) (kk : FVec Ideal S384x64 .bf16) (qh : Vec Ideal S1x128x64 .bf16)
    (B : Vec Ideal S1x128x384 .f32) (p : Fin 128) (j : Fin 384) :
    k0_pay8 C kk qh B (ix2 p j) = score C kk qh B p j := by
  unfold k0_pay8 score
  pointwise

/-- The head's row maximum with the sink. -/
theorem pay9_at (C : FVec Ideal S1x384 .f32) (kk : FVec Ideal S384x64 .bf16) (qh : Vec Ideal S1x128x64 .bf16)
    (B : Vec Ideal S1x128x384 .f32) (sk : EReal) (p : Fin 128) (z : Fin 1) :
    k0_pay9 C kk qh B sk (ix2 p z) = top (score C kk qh B p) sk := by
  have e : k0_pay9 C kk qh B sk (ix2 p z) = max (Finset.univ.fold max (Ideal.ofBits .f32 0xFF800000#32) fun j => k0_pay8 C kk qh B (ix2 p j)) sk := by
    unfold k0_pay9
    generalize k0_pay8 C kk qh B = y
    pointwise
  have b : Ideal.ofBits .f32 0xFF800000#32 = ⊥ := by simp [Ideal.ofBits, Ideal.ieee]
  rw [e, b]
  simp only [pay8_at]
  rfl

/-- The head's weights. -/
theorem pay10_at (C : FVec Ideal S1x384 .f32) (kk : FVec Ideal S384x64 .bf16) (qh : Vec Ideal S1x128x64 .bf16)
    (B : Vec Ideal S1x128x384 .f32) (sk : EReal) (p : Fin 128) (j : Fin 384) :
    k0_pay10 C kk qh B sk (ix2 p j) = Ideal.exp (score C kk qh B p j - top (score C kk qh B p) sk) := by
  have e : k0_pay10 C kk qh B sk (ix2 p j) = Ideal.exp (k0_pay8 C kk qh B (ix2 p j) - k0_pay9 C kk qh B sk (ix2 p 0)) := by
    unfold k0_pay10
    generalize k0_pay8 C kk qh B = y
    generalize k0_pay9 C kk qh B sk = z
    pointwise
  rw [e, pay8_at, pay9_at]

/-- The head's output: the weighted sum of the values over the weights' sum. -/
theorem pay11_at (vv : FVec Ideal S384x64 .bf16) (sk : EReal) (M : FVec Ideal S128x1 .f32) (W : FVec Ideal S128x384 .f32)
    (p : Fin 128) (d : Fin 64) :
    k0_pay11 vv sk M W (ix2 p d)
      = Ideal.div (∑ j : Fin 384, W (ix2 p j) * vv (ix2 j d)) ((∑ j : Fin 384, W (ix2 p j)) + Ideal.exp (sk - M (ix2 p 0))) := by
  unfold k0_pay11
  pointwise

/-- One head from its operands: scores, row maximum, weights, output. -/
def head (C : FVec Ideal S1x384 .f32) (kk vv : FVec Ideal S384x64 .bf16) (qh : Vec Ideal S1x128x64 .bf16)
    (B : Vec Ideal S1x128x384 .f32) (sk : EReal) : FVec Ideal S128x64 .f32 :=
  k0_pay11 vv sk (k0_pay9 C kk qh B sk) (k0_pay10 C kk qh B sk)

/-- One head, entry by entry. -/
theorem head_at (C : FVec Ideal S1x384 .f32) (kk vv : FVec Ideal S384x64 .bf16) (qh : Vec Ideal S1x128x64 .bf16)
    (B : Vec Ideal S1x128x384 .f32) (sk : EReal) (p : Fin 128) (d : Fin 64) :
    head C kk vv qh B sk (ix2 p d)
      = Ideal.div (∑ j : Fin 384, Ideal.exp (score C kk qh B p j - top (score C kk qh B p) sk) * vv (ix2 j d))
          (den (score C kk qh B p) sk) := by
  unfold head den
  rw [pay11_at]
  simp only [pay10_at, pay9_at]

end Cert.Proof.AttnValue

end
-- ==== Proof.Attn.Out.lean ====
/-
  What the attention kernel writes at a grid point: the eight heads side by side, entry by entry.
-/
module

public import proofs.«01_k».proof.Proof.Attn.Reads
public import proofs.«01_k».proof.Proof.Attn.Head

@[expose] public section

set_option maxRecDepth 16384
set_option maxHeartbeats 4000000

noncomputable section

open Idealize.ShloMosaic Idealize.ShloMosaic.TcCoe Idealize.SL.Sem
open Idealize.ShloMosaic.Pipeline (Dat)

namespace Cert.Proof.AttnValue

open Cert.AttnIdeal Cert.AttnIdeal.Gen
open Cert.Proof.AttnRef (rel)

variable (m : (ℓ : Loc nD τ sig) → Buf (Elt Ideal) ℓ)

/-- The column bias at a point. -/
abbrev colT (t : Fin cfg0.N) : FVec Ideal S1x384 .f32 := k0_pay2 (grid0.coords t)
/-- The keys of the first key head at a point. -/
abbrev kT0 (c : Dev nD) (t : Fin cfg0.N) : FVec Ideal S384x64 .bf16 := k0_pay5 (iblk m c 2 t) (iblk m c 3 t) (iblk m c 4 t)
/-- The keys of the second key head at a point. -/
abbrev kT1 (c : Dev nD) (t : Fin cfg0.N) : FVec Ideal S384x64 .bf16 := k0_pay16 (k0_pay3 (iblk m c 2 t) (iblk m c 3 t) (iblk m c 4 t))
/-- The values of the first key head at a point. -/
abbrev vT0 (c : Dev nD) (t : Fin cfg0.N) : FVec Ideal S384x64 .bf16 := k0_pay6 (iblk m c 5 t) (iblk m c 6 t) (iblk m c 7 t)
/-- The values of the second key head at a point. -/
abbrev vT1 (c : Dev nD) (t : Fin cfg0.N) : FVec Ideal S384x64 .bf16 := k0_pay17 (k0_pay4 (iblk m c 5 t) (iblk m c 6 t) (iblk m c 7 t))

/-- The queries of head 0 at a point. -/
def q0 (c : Dev nD) (t : Fin cfg0.N) : Vec Ideal S1x128x64 .bf16 :=
  View.ld (iblk m c 1 t) (Rect.unit ![0, 0, 0] ![1, 128, 64] inb_S1x128x512_S1x128x64_0_0_0)
/-- The bias of head 0 at a point. -/
def b0 (c : Dev nD) (t : Fin cfg0.N) : Vec Ideal S1x128x384 .f32 :=
  View.ld (iblk m c 8 t) (Rect.unit ![0, 0, 0] ![1, 128, 384] inb_S8x128x384_S1x128x384_0_0_0)
/-- The sink of head 0 at a point. -/
def s0 (c : Dev nD) (t : Fin cfg0.N) : EReal :=
  View.ld (iblk m c 0 t) (Rect.unit ![0] ![1] inb_S8_S1_0) (Shape.Idx.first (Nat.lt_of_sub_eq_succ rfl))
/-- Head 0 at a point. -/
def h0 (c : Dev nD) (t : Fin cfg0.N) : FVec Ideal S128x64 .f32 :=
  head (colT t) (kT0 m c t) (vT0 m c t) (q0 m c t) (b0 m c t) (s0 m c t)

/-- Head 0's queries are the query block's columns. -/
theorem q0_at (c : Dev nD) (t : Fin cfg0.N) (p : Fin 128) (e : Fin 64) :
    q0 m c t (ix3 0 p e) = X0 m c (ix3 (bat t) ⟨(blk t).val * 128 + p.val, by omega⟩ ⟨0 + e.val, by omega⟩) := by
  rw [← read1 m c t p ⟨0 + e.val, by omega⟩]
  unfold q0
  generalize iblk m c 1 t = y
  pointwise
/-- Head 0's bias is the table's. -/
theorem b0_at (c : Dev nD) (t : Fin cfg0.N) (p : Fin 128) (j : Fin 384) :
    b0 m c t (ix3 0 p j) = iblk m c 8 t (ix3 0 p j) := by
  unfold b0
  generalize iblk m c 8 t = y
  pointwise
/-- Head 0's sink. -/
theorem s0_at (c : Dev nD) (t : Fin cfg0.N) : s0 m c t = X3 m c (ix1 0) := by
  rw [← read0 m c t 0]
  unfold s0
  generalize iblk m c 0 t = y
  pointwise

/-- The queries of head 1 at a point. -/
def q1 (c : Dev nD) (t : Fin cfg0.N) : Vec Ideal S1x128x64 .bf16 :=
  View.ld (iblk m c 1 t) (Rect.unit ![0, 0, 64] ![1, 128, 64] inb_S1x128x512_S1x128x64_0_0_64)
/-- The bias of head 1 at a point. -/
def b1 (c : Dev nD) (t : Fin cfg0.N) : Vec Ideal S1x128x384 .f32 :=
  View.ld (iblk m c 8 t) (Rect.unit ![1, 0, 0] ![1, 128, 384] inb_S8x128x384_S1x128x384_1_0_0)
/-- The sink of head 1 at a point. -/
def s1 (c : Dev nD) (t : Fin cfg0.N) : EReal :=
  View.ld (iblk m c 0 t) (Rect.unit ![1] ![1] inb_S8_S1_1) (Shape.Idx.first (Nat.lt_of_sub_eq_succ rfl))
/-- Head 1 at a point. -/
def h1 (c : Dev nD) (t : Fin cfg0.N) : FVec Ideal S128x64 .f32 :=
  head (colT t) (kT0 m c t) (vT0 m c t) (q1 m c t) (b1 m c t) (s1 m c t)

/-- Head 1's queries are the query block's columns. -/
theorem q1_at (c : Dev nD) (t : Fin cfg0.N) (p : Fin 128) (e : Fin 64) :
    q1 m c t (ix3 0 p e) = X0 m c (ix3 (bat t) ⟨(blk t).val * 128 + p.val, by omega⟩ ⟨64 + e.val, by omega⟩) := by
  rw [← read1 m c t p ⟨64 + e.val, by omega⟩]
  unfold q1
  generalize iblk m c 1 t = y
  pointwise
/-- Head 1's bias is the table's. -/
theorem b1_at (c : Dev nD) (t : Fin cfg0.N) (p : Fin 128) (j : Fin 384) :
    b1 m c t (ix3 0 p j) = iblk m c 8 t (ix3 1 p j) := by
  unfold b1
  generalize iblk m c 8 t = y
  pointwise
/-- Head 1's sink. -/
theorem s1_at (c : Dev nD) (t : Fin cfg0.N) : s1 m c t = X3 m c (ix1 1) := by
  rw [← read0 m c t 1]
  unfold s1
  generalize iblk m c 0 t = y
  pointwise

/-- The queries of head 2 at a point. -/
def q2 (c : Dev nD) (t : Fin cfg0.N) : Vec Ideal S1x128x64 .bf16 :=
  View.ld (iblk m c 1 t) (Rect.unit ![0, 0, 128] ![1, 128, 64] inb_S1x128x512_S1x128x64_0_0_128)
/-- The bias of head 2 at a point. -/
def b2 (c : Dev nD) (t : Fin cfg0.N) : Vec Ideal S1x128x384 .f32 :=
  View.ld (iblk m c 8 t) (Rect.unit ![2, 0, 0] ![1, 128, 384] inb_S8x128x384_S1x128x384_2_0_0)
/-- The sink of head 2 at a point. -/
def s2 (c : Dev nD) (t : Fin cfg0.N) : EReal :=
  View.ld (iblk m c 0 t) (Rect.unit ![2] ![1] inb_S8_S1_2) (Shape.Idx.first (Nat.lt_of_sub_eq_succ rfl))
/-- Head 2 at a point. -/
def h2 (c : Dev nD) (t : Fin cfg0.N) : FVec Ideal S128x64 .f32 :=
  head (colT t) (kT0 m c t) (vT0 m c t) (q2 m c t) (b2 m c t) (s2 m c t)

/-- Head 2's queries are the query block's columns. -/
theorem q2_at (c : Dev nD) (t : Fin cfg0.N) (p : Fin 128) (e : Fin 64) :
    q2 m c t (ix3 0 p e) = X0 m c (ix3 (bat t) ⟨(blk t).val * 128 + p.val, by omega⟩ ⟨128 + e.val, by omega⟩) := by
  rw [← read1 m c t p ⟨128 + e.val, by omega⟩]
  unfold q2
  generalize iblk m c 1 t = y
  pointwise
/-- Head 2's bias is the table's. -/
theorem b2_at (c : Dev nD) (t : Fin cfg0.N) (p : Fin 128) (j : Fin 384) :
    b2 m c t (ix3 0 p j) = iblk m c 8 t (ix3 2 p j) := by
  unfold b2
  generalize iblk m c 8 t = y
  pointwise
/-- Head 2's sink. -/
theorem s2_at (c : Dev nD) (t : Fin cfg0.N) : s2 m c t = X3 m c (ix1 2) := by
  rw [← read0 m c t 2]
  unfold s2
  generalize iblk m c 0 t = y
  pointwise

/-- The queries of head 3 at a point. -/
def q3 (c : Dev nD) (t : Fin cfg0.N) : Vec Ideal S1x128x64 .bf16 :=
  View.ld (iblk m c 1 t) (Rect.unit ![0, 0, 192] ![1, 128, 64] inb_S1x128x512_S1x128x64_0_0_192)
/-- The bias of head 3 at a point. -/
def b3 (c : Dev nD) (t : Fin cfg0.N) : Vec Ideal S1x128x384 .f32 :=
  View.ld (iblk m c 8 t) (Rect.unit ![3, 0, 0] ![1, 128, 384] inb_S8x128x384_S1x128x384_3_0_0)
/-- The sink of head 3 at a point. -/
def s3 (c : Dev nD) (t : Fin cfg0.N) : EReal :=
  View.ld (iblk m c 0 t) (Rect.unit ![3] ![1] inb_S8_S1_3) (Shape.Idx.first (Nat.lt_of_sub_eq_succ rfl))
/-- Head 3 at a point. -/
def h3 (c : Dev nD) (t : Fin cfg0.N) : FVec Ideal S128x64 .f32 :=
  head (colT t) (kT0 m c t) (vT0 m c t) (q3 m c t) (b3 m c t) (s3 m c t)

/-- Head 3's queries are the query block's columns. -/
theorem q3_at (c : Dev nD) (t : Fin cfg0.N) (p : Fin 128) (e : Fin 64) :
    q3 m c t (ix3 0 p e) = X0 m c (ix3 (bat t) ⟨(blk t).val * 128 + p.val, by omega⟩ ⟨192 + e.val, by omega⟩) := by
  rw [← read1 m c t p ⟨192 + e.val, by omega⟩]
  unfold q3
  generalize iblk m c 1 t = y
  pointwise
/-- Head 3's bias is the table's. -/
theorem b3_at (c : Dev nD) (t : Fin cfg0.N) (p : Fin 128) (j : Fin 384) :
    b3 m c t (ix3 0 p j) = iblk m c 8 t (ix3 3 p j) := by
  unfold b3
  generalize iblk m c 8 t = y
  pointwise
/-- Head 3's sink. -/
theorem s3_at (c : Dev nD) (t : Fin cfg0.N) : s3 m c t = X3 m c (ix1 3) := by
  rw [← read0 m c t 3]
  unfold s3
  generalize iblk m c 0 t = y
  pointwise

/-- The queries of head 4 at a point. -/
def q4 (c : Dev nD) (t : Fin cfg0.N) : Vec Ideal S1x128x64 .bf16 :=
  View.ld (iblk m c 1 t) (Rect.unit ![0, 0, 256] ![1, 128, 64] inb_S1x128x512_S1x128x64_0_0_256)
/-- The bias of head 4 at a point. -/
def b4 (c : Dev nD) (t : Fin cfg0.N) : Vec Ideal S1x128x384 .f32 :=
  View.ld (iblk m c 8 t) (Rect.unit ![4, 0, 0] ![1, 128, 384] inb_S8x128x384_S1x128x384_4_0_0)
/-- The sink of head 4 at a point. -/
def s4 (c : Dev nD) (t : Fin cfg0.N) : EReal :=
  View.ld (iblk m c 0 t) (Rect.unit ![4] ![1] inb_S8_S1_4) (Shape.Idx.first (Nat.lt_of_sub_eq_succ rfl))
/-- Head 4 at a point. -/
def h4 (c : Dev nD) (t : Fin cfg0.N) : FVec Ideal S128x64 .f32 :=
  head (colT t) (kT1 m c t) (vT1 m c t) (q4 m c t) (b4 m c t) (s4 m c t)

/-- Head 4's queries are the query block's columns. -/
theorem q4_at (c : Dev nD) (t : Fin cfg0.N) (p : Fin 128) (e : Fin 64) :
    q4 m c t (ix3 0 p e) = X0 m c (ix3 (bat t) ⟨(blk t).val * 128 + p.val, by omega⟩ ⟨256 + e.val, by omega⟩) := by
  rw [← read1 m c t p ⟨256 + e.val, by omega⟩]
  unfold q4
  generalize iblk m c 1 t = y
  pointwise
/-- Head 4's bias is the table's. -/
theorem b4_at (c : Dev nD) (t : Fin cfg0.N) (p : Fin 128) (j : Fin 384) :
    b4 m c t (ix3 0 p j) = iblk m c 8 t (ix3 4 p j) := by
  unfold b4
  generalize iblk m c 8 t = y
  pointwise
/-- Head 4's sink. -/
theorem s4_at (c : Dev nD) (t : Fin cfg0.N) : s4 m c t = X3 m c (ix1 4) := by
  rw [← read0 m c t 4]
  unfold s4
  generalize iblk m c 0 t = y
  pointwise

/-- The queries of head 5 at a point. -/
def q5 (c : Dev nD) (t : Fin cfg0.N) : Vec Ideal S1x128x64 .bf16 :=
  View.ld (iblk m c 1 t) (Rect.unit ![0, 0, 320] ![1, 128, 64] inb_S1x128x512_S1x128x64_0_0_320)
/-- The bias of head 5 at a point. -/
def b5 (c : Dev nD) (t : Fin cfg0.N) : Vec Ideal S1x128x384 .f32 :=
  View.ld (iblk m c 8 t) (Rect.unit ![5, 0, 0] ![1, 128, 384] inb_S8x128x384_S1x128x384_5_0_0)
/-- The sink of head 5 at a point. -/
def s5 (c : Dev nD) (t : Fin cfg0.N) : EReal :=
  View.ld (iblk m c 0 t) (Rect.unit ![5] ![1] inb_S8_S1_5) (Shape.Idx.first (Nat.lt_of_sub_eq_succ rfl))
/-- Head 5 at a point. -/
def h5 (c : Dev nD) (t : Fin cfg0.N) : FVec Ideal S128x64 .f32 :=
  head (colT t) (kT1 m c t) (vT1 m c t) (q5 m c t) (b5 m c t) (s5 m c t)

/-- Head 5's queries are the query block's columns. -/
theorem q5_at (c : Dev nD) (t : Fin cfg0.N) (p : Fin 128) (e : Fin 64) :
    q5 m c t (ix3 0 p e) = X0 m c (ix3 (bat t) ⟨(blk t).val * 128 + p.val, by omega⟩ ⟨320 + e.val, by omega⟩) := by
  rw [← read1 m c t p ⟨320 + e.val, by omega⟩]
  unfold q5
  generalize iblk m c 1 t = y
  pointwise
/-- Head 5's bias is the table's. -/
theorem b5_at (c : Dev nD) (t : Fin cfg0.N) (p : Fin 128) (j : Fin 384) :
    b5 m c t (ix3 0 p j) = iblk m c 8 t (ix3 5 p j) := by
  unfold b5
  generalize iblk m c 8 t = y
  pointwise
/-- Head 5's sink. -/
theorem s5_at (c : Dev nD) (t : Fin cfg0.N) : s5 m c t = X3 m c (ix1 5) := by
  rw [← read0 m c t 5]
  unfold s5
  generalize iblk m c 0 t = y
  pointwise

/-- The queries of head 6 at a point. -/
def q6 (c : Dev nD) (t : Fin cfg0.N) : Vec Ideal S1x128x64 .bf16 :=
  View.ld (iblk m c 1 t) (Rect.unit ![0, 0, 384] ![1, 128, 64] inb_S1x128x512_S1x128x64_0_0_384)
/-- The bias of head 6 at a point. -/
def b6 (c : Dev nD) (t : Fin cfg0.N) : Vec Ideal S1x128x384 .f32 :=
  View.ld (iblk m c 8 t) (Rect.unit ![6, 0, 0] ![1, 128, 384] inb_S8x128x384_S1x128x384_6_0_0)
/-- The sink of head 6 at a point. -/
def s6 (c : Dev nD) (t : Fin cfg0.N) : EReal :=
  View.ld (iblk m c 0 t) (Rect.unit ![6] ![1] inb_S8_S1_6) (Shape.Idx.first (Nat.lt_of_sub_eq_succ rfl))
/-- Head 6 at a point. -/
def h6 (c : Dev nD) (t : Fin cfg0.N) : FVec Ideal S128x64 .f32 :=
  head (colT t) (kT1 m c t) (vT1 m c t) (q6 m c t) (b6 m c t) (s6 m c t)

/-- Head 6's queries are the query block's columns. -/
theorem q6_at (c : Dev nD) (t : Fin cfg0.N) (p : Fin 128) (e : Fin 64) :
    q6 m c t (ix3 0 p e) = X0 m c (ix3 (bat t) ⟨(blk t).val * 128 + p.val, by omega⟩ ⟨384 + e.val, by omega⟩) := by
  rw [← read1 m c t p ⟨384 + e.val, by omega⟩]
  unfold q6
  generalize iblk m c 1 t = y
  pointwise
/-- Head 6's bias is the table's. -/
theorem b6_at (c : Dev nD) (t : Fin cfg0.N) (p : Fin 128) (j : Fin 384) :
    b6 m c t (ix3 0 p j) = iblk m c 8 t (ix3 6 p j) := by
  unfold b6
  generalize iblk m c 8 t = y
  pointwise
/-- Head 6's sink. -/
theorem s6_at (c : Dev nD) (t : Fin cfg0.N) : s6 m c t = X3 m c (ix1 6) := by
  rw [← read0 m c t 6]
  unfold s6
  generalize iblk m c 0 t = y
  pointwise

/-- The queries of head 7 at a point. -/
def q7 (c : Dev nD) (t : Fin cfg0.N) : Vec Ideal S1x128x64 .bf16 :=
  View.ld (iblk m c 1 t) (Rect.unit ![0, 0, 448] ![1, 128, 64] inb_S1x128x512_S1x128x64_0_0_448)
/-- The bias of head 7 at a point. -/
def b7 (c : Dev nD) (t : Fin cfg0.N) : Vec Ideal S1x128x384 .f32 :=
  View.ld (iblk m c 8 t) (Rect.unit ![7, 0, 0] ![1, 128, 384] inb_S8x128x384_S1x128x384_7_0_0)
/-- The sink of head 7 at a point. -/
def s7 (c : Dev nD) (t : Fin cfg0.N) : EReal :=
  View.ld (iblk m c 0 t) (Rect.unit ![7] ![1] inb_S8_S1_7) (Shape.Idx.first (Nat.lt_of_sub_eq_succ rfl))
/-- Head 7 at a point. -/
def h7 (c : Dev nD) (t : Fin cfg0.N) : FVec Ideal S128x64 .f32 :=
  head (colT t) (kT1 m c t) (vT1 m c t) (q7 m c t) (b7 m c t) (s7 m c t)

/-- Head 7's queries are the query block's columns. -/
theorem q7_at (c : Dev nD) (t : Fin cfg0.N) (p : Fin 128) (e : Fin 64) :
    q7 m c t (ix3 0 p e) = X0 m c (ix3 (bat t) ⟨(blk t).val * 128 + p.val, by omega⟩ ⟨448 + e.val, by omega⟩) := by
  rw [← read1 m c t p ⟨448 + e.val, by omega⟩]
  unfold q7
  generalize iblk m c 1 t = y
  pointwise
/-- Head 7's bias is the table's. -/
theorem b7_at (c : Dev nD) (t : Fin cfg0.N) (p : Fin 128) (j : Fin 384) :
    b7 m c t (ix3 0 p j) = iblk m c 8 t (ix3 7 p j) := by
  unfold b7
  generalize iblk m c 8 t = y
  pointwise
/-- Head 7's sink. -/
theorem s7_at (c : Dev nD) (t : Fin cfg0.N) : s7 m c t = X3 m c (ix1 7) := by
  rw [← read0 m c t 7]
  unfold s7
  generalize iblk m c 0 t = y
  pointwise

/-- The block of heads, side by side. -/
def heads (c : Dev nD) (t : Fin cfg0.N) : FVec Ideal S128x512 .f32 :=
  concatenate S128x512 1 [⟨S128x64, h0 m c t⟩, ⟨S128x64, h1 m c t⟩, ⟨S128x64, h2 m c t⟩, ⟨S128x64, h3 m c t⟩, ⟨S128x64, h4 m c t⟩, ⟨S128x64, h5 m c t⟩, ⟨S128x64, h6 m c t⟩, ⟨S128x64, h7 m c t⟩] concatenates_S128x64_S128x64_S128x64_S128x64_S128x64_S128x64_S128x64_S128x64_S128x512_d1

/-- The body leaves the heads' block in the output window. -/
theorem outs_eq (c : Dev nD) (t : Fin cfg0.N) : outsAt0 m c t = k0_pay1 (truncf .bf16 (heads m c t) bitsLt_bf16_f32) := by
  unfold outsAt0
  frame_out
  rfl

/-- An entry of the heads' block is its head's. -/
theorem heads_at (c : Dev nD) (t : Fin cfg0.N) (p : Fin 128) (h : Fin 8) (d : Fin 64) :
    heads m c t (ix2 p ⟨h.val * 64 + d.val, by omega⟩)
      = (![h0 m c t, h1 m c t, h2 m c t, h3 m c t, h4 m c t, h5 m c t, h6 m c t, h7 m c t] h) (ix2 p d) := by
  have hd := d.isLt
  refine concatenate_ofFn_apply (1 : Fin S128x512.rank) (N := 8) (s₁ := S128x64)
    ![h0 m c t, h1 m c t, h2 m c t, h3 m c t, h4 m c t, h5 m c t, h6 m c t, h7 m c t] _ rfl 64 rfl _ h ?_ (ix2 p d) ?_ ?_
  · show (h.val * 64 + d.val) / 64 = h.val
    omega
  · show d.val = (h.val * 64 + d.val) % 64
    omega
  · intro b hb
    match b with
    | ⟨0, _⟩ => rfl
    | ⟨1, _⟩ => exact absurd rfl hb

end Cert.Proof.AttnValue

end
-- ==== Proof.Attn.Value.lean ====
/-
  The attention call's result array is the reference's, when the queries, the keys and the sinks
  are real numbers.
-/
module

public import proofs.«01_k».proof.Proof.Attn.Tiles
public import proofs.«01_k».proof.Proof.Attn.Table
public import proofs.«01_k».proof.Proof.Attn.Out

@[expose] public section

set_option maxRecDepth 16384
set_option maxHeartbeats 4000000

noncomputable section

open Idealize.ShloMosaic Idealize.ShloMosaic.TcCoe Idealize.SL.Sem
open Idealize.ShloMosaic.Pipeline (Dat)

namespace Cert.Proof.AttnValue

open Cert.AttnIdeal Cert.AttnIdeal.Gen
open Cert.Proof.AttnRef (rel)

open Cert.Proof.AttnRef (inBand inSeq S K Qc Kc Sc S_seen S_unseen value_in v95_at)
open Cert.Proof.AttnSoft (top den attend_eq)
open Cert.AttnRefIdeal.Read (val_main_v95 val_main_v60 val_main_v17)

/-- A sum of real numbers is a real number. -/
theorem sum_real {n : Nat} (f : Fin n → EReal) (h : ∀ i, ∃ r : ℝ, f i = r) : ∃ r : ℝ, ∑ i, f i = r := by
  refine Finset.sum_induction f (fun x => ∃ r : ℝ, x = (r : EReal)) ?_ ⟨0, rfl⟩ fun i _ => h i
  rintro _ _ ⟨a, rfl⟩ ⟨b, rfl⟩
  exact ⟨a + b, (EReal.coe_add a b).symm⟩

/-- A score of the reference is never +∞ when queries and keys are real. -/
theorem S_ne_top (q : Qc) (k : Kc) (rq : ∀ i, ∃ r : ℝ, q i = (r : EReal)) (rk : ∀ i, ∃ r : ℝ, k i = (r : EReal))
    (b : Fin 4) (n : Fin 64) (u : Fin 2) (g : Fin 4) (p : Fin 128) (j : Fin 384) : S q k b n u g p j ≠ ⊤ := by
  by_cases h : inBand p j ∧ inSeq n j
  · rw [S_seen q k b n u g p j h.1 h.2]
    obtain ⟨x, hx⟩ := sum_real (fun x : Fin 64 =>
      (k (ix3 b ⟨n.val * 128 + j.val - 128, by have := h.2.1; have := h.2.2; omega⟩ ⟨u.val * 64 + x.val, by omega⟩) : EReal)
          * q (ix3 b ⟨n.val * 128 + p.val, by omega⟩ ⟨(u.val * 4 + g.val) * 64 + x.val, by omega⟩)) (fun x => by
      obtain ⟨a, ha⟩ := rk (ix3 b ⟨n.val * 128 + j.val - 128, by have := h.2.1; have := h.2.2; omega⟩ ⟨u.val * 64 + x.val, by omega⟩)
      obtain ⟨c, hc⟩ := rq (ix3 b ⟨n.val * 128 + p.val, by omega⟩ ⟨(u.val * 4 + g.val) * 64 + x.val, by omega⟩)
      exact ⟨a * c, by rw [ha, hc, EReal.coe_mul]⟩)
    obtain ⟨y, hy⟩ := slope_real ⟨u.val * 4 + g.val, by omega⟩
    have hr : FloatOps.sitofp (F := Ideal) .f32 (rel p j) = (((rel p j).toInt : ℝ) : EReal) := rfl
    rw [hx, hy, hr, ← EReal.coe_neg, ← EReal.coe_mul, ← EReal.coe_add]
    exact EReal.coe_ne_top _
  · rw [S_unseen q k b n u g p j h]
    exact bot_ne_top

/-- A head's score in the kernel is the reference's. -/
theorem score_eq (C : FVec Ideal S1x384 .f32) (kk : FVec Ideal S384x64 .bf16) (qh : Vec Ideal S1x128x64 .bf16)
    (B : Vec Ideal S1x128x384 .f32) (q : Qc) (k : Kc) (b : Fin 4) (n : Fin 64) (u : Fin 2) (g : Fin 4) (p : Fin 128)
    (hC : ∀ j, C (ix2 0 j) = if inSeq n j then (0 : EReal) else ⊥)
    (hk : ∀ (j : Fin 384) (e : Fin 64) (h : inSeq n j), kk (ix2 j e)
      = k (ix3 b ⟨n.val * 128 + j.val - 128, by have := h.1; have := h.2; omega⟩ ⟨u.val * 64 + e.val, by omega⟩))
    (hq : ∀ e : Fin 64, qh (ix3 0 p e) = q (ix3 b ⟨n.val * 128 + p.val, by omega⟩ ⟨(u.val * 4 + g.val) * 64 + e.val, by omega⟩))
    (hB : ∀ j, B (ix3 0 p j) = table (ix3 ⟨u.val * 4 + g.val, by omega⟩ p j)) (j : Fin 384) :
    score C kk qh B p j = S q k b n u g p j := by
  unfold score
  by_cases hs : inSeq n j
  · rw [hC, if_pos hs, add_zero]
    by_cases hb : inBand p j
    · rw [S_seen q k b n u g p j hb hs, hB, table_in _ _ _ hb]
      congr 1
      refine Finset.sum_congr rfl fun e _ => ?_
      rw [hk j e hs, hq e]
      exact mul_comm _ _
    · rw [S_unseen q k b n u g p j (fun h => hb h.1), hB, table_out _ _ _ hb]
      exact EReal.add_bot _
  · rw [S_unseen q k b n u g p j (fun h => hs h.2), hC, if_neg hs]
    exact EReal.add_bot _

/-- A head of the kernel is the reference's result at the head's columns. -/
theorem head_value (C : FVec Ideal S1x384 .f32) (kk vv : FVec Ideal S384x64 .bf16) (qh : Vec Ideal S1x128x64 .bf16)
    (B : Vec Ideal S1x128x384 .f32) (sk : EReal) (q : Qc) (k v : Kc) (s : Sc)
    (rq : ∀ i, ∃ r : ℝ, q i = (r : EReal)) (rk : ∀ i, ∃ r : ℝ, k i = (r : EReal)) (rs : ∀ i, ∃ r : ℝ, s i = (r : EReal))
    (b : Fin 4) (n : Fin 64) (u : Fin 2) (g : Fin 4) (p : Fin 128) (d : Fin 64)
    (hC : ∀ j, C (ix2 0 j) = if inSeq n j then (0 : EReal) else ⊥)
    (hk : ∀ (j : Fin 384) (e : Fin 64) (h : inSeq n j), kk (ix2 j e)
      = k (ix3 b ⟨n.val * 128 + j.val - 128, by have := h.1; have := h.2; omega⟩ ⟨u.val * 64 + e.val, by omega⟩))
    (hv : ∀ (j : Fin 384) (e : Fin 64) (h : inSeq n j), vv (ix2 j e)
      = v (ix3 b ⟨n.val * 128 + j.val - 128, by have := h.1; have := h.2; omega⟩ ⟨u.val * 64 + e.val, by omega⟩))
    (hq : ∀ e : Fin 64, qh (ix3 0 p e) = q (ix3 b ⟨n.val * 128 + p.val, by omega⟩ ⟨(u.val * 4 + g.val) * 64 + e.val, by omega⟩))
    (hB : ∀ j, B (ix3 0 p j) = table (ix3 ⟨u.val * 4 + g.val, by omega⟩ p j))
    (hs : sk = s (ix1 ⟨u.val * 4 + g.val, by omega⟩)) :
    head C kk vv qh B sk (ix2 p d)
      = val_main_v95 (F := Ideal) q k v s (ix3 b ⟨n.val * 128 + p.val, by omega⟩ ⟨(u.val * 4 + g.val) * 64 + d.val, by omega⟩) := by
  have e : score C kk qh B p = S q k b n u g p := funext fun j => score_eq C kk qh B q k b n u g p hC hk hq hB j
  have eK : sk = K s u g := hs
  obtain ⟨r, hr⟩ := rs (ix1 ⟨u.val * 4 + g.val, by omega⟩)
  have eR : K s u g = (r : EReal) := hr
  rw [head_at, v95_at, e, eK, eR]
  refine attend_eq _ r _ _ (S_ne_top q k rq rk b n u g p) fun j hj => ?_
  have h : inSeq n j := by
    by_contra hn
    exact hj (S_unseen q k b n u g p j fun h => hn h.2)
  rw [hv j d h, value_in v b n j u d h]

variable (m : (ℓ : Loc nD τ sig) → Buf (Elt Ideal) ℓ)

/-- Each head at a point is the reference's result at the point's tokens and the head's columns. -/
theorem each_head (c : Dev nD) (rq : ∀ i, ∃ r : ℝ, X0 m c i = (r : EReal)) (rk : ∀ i, ∃ r : ℝ, X1 m c i = (r : EReal))
    (rs : ∀ i, ∃ r : ℝ, X3 m c i = (r : EReal)) (t : Fin cfg0.N) (p : Fin 128) (h : Fin 8) (d : Fin 64) :
    (![h0 m c t, h1 m c t, h2 m c t, h3 m c t, h4 m c t, h5 m c t, h6 m c t, h7 m c t] h) (ix2 p d)
      = val_main_v95 (F := Ideal) (X0 m c) (X1 m c) (X2 m c) (X3 m c)
          (ix3 (bat t) ⟨(blk t).val * 128 + p.val, by omega⟩ ⟨h.val * 64 + d.val, by omega⟩) := by
  match h with
  | ⟨0, _⟩ =>
    refine head_value _ _ _ _ _ _ _ _ _ _ rq rk rs (bat t) (blk t) 0 0 p d (col_at t) ?_ ?_ ?_ ?_ (s0_at m c t)
    · intro j e hj
      refine (keys0_at m c t j e hj).trans ?_
      exact congrArg _ (congrArg (fun z => ix3 (bat t) _ z) (Fin.ext (by simp)))
    · intro j e hj
      refine (values0_at m c t j e hj).trans ?_
      exact congrArg _ (congrArg (fun z => ix3 (bat t) _ z) (Fin.ext (by simp)))
    · intro e
      rw [q0_at]
      rfl
    · intro j
      rw [b0_at, read8]
      rfl
  | ⟨1, _⟩ =>
    refine head_value _ _ _ _ _ _ _ _ _ _ rq rk rs (bat t) (blk t) 0 1 p d (col_at t) ?_ ?_ ?_ ?_ (s1_at m c t)
    · intro j e hj
      refine (keys0_at m c t j e hj).trans ?_
      exact congrArg _ (congrArg (fun z => ix3 (bat t) _ z) (Fin.ext (by simp)))
    · intro j e hj
      refine (values0_at m c t j e hj).trans ?_
      exact congrArg _ (congrArg (fun z => ix3 (bat t) _ z) (Fin.ext (by simp)))
    · intro e
      rw [q1_at]
      rfl
    · intro j
      rw [b1_at, read8]
      rfl
  | ⟨2, _⟩ =>
    refine head_value _ _ _ _ _ _ _ _ _ _ rq rk rs (bat t) (blk t) 0 2 p d (col_at t) ?_ ?_ ?_ ?_ (s2_at m c t)
    · intro j e hj
      refine (keys0_at m c t j e hj).trans ?_
      exact congrArg _ (congrArg (fun z => ix3 (bat t) _ z) (Fin.ext (by simp)))
    · intro j e hj
      refine (values0_at m c t j e hj).trans ?_
      exact congrArg _ (congrArg (fun z => ix3 (bat t) _ z) (Fin.ext (by simp)))
    · intro e
      rw [q2_at]
      rfl
    · intro j
      rw [b2_at, read8]
      rfl
  | ⟨3, _⟩ =>
    refine head_value _ _ _ _ _ _ _ _ _ _ rq rk rs (bat t) (blk t) 0 3 p d (col_at t) ?_ ?_ ?_ ?_ (s3_at m c t)
    · intro j e hj
      refine (keys0_at m c t j e hj).trans ?_
      exact congrArg _ (congrArg (fun z => ix3 (bat t) _ z) (Fin.ext (by simp)))
    · intro j e hj
      refine (values0_at m c t j e hj).trans ?_
      exact congrArg _ (congrArg (fun z => ix3 (bat t) _ z) (Fin.ext (by simp)))
    · intro e
      rw [q3_at]
      rfl
    · intro j
      rw [b3_at, read8]
      rfl
  | ⟨4, _⟩ =>
    refine head_value _ _ _ _ _ _ _ _ _ _ rq rk rs (bat t) (blk t) 1 0 p d (col_at t) ?_ ?_ ?_ ?_ (s4_at m c t)
    · intro j e hj
      refine (keys1_at m c t j e hj).trans ?_
      exact congrArg _ (congrArg (fun z => ix3 (bat t) _ z) (Fin.ext (by simp)))
    · intro j e hj
      refine (values1_at m c t j e hj).trans ?_
      exact congrArg _ (congrArg (fun z => ix3 (bat t) _ z) (Fin.ext (by simp)))
    · intro e
      rw [q4_at]
      rfl
    · intro j
      rw [b4_at, read8]
      rfl
  | ⟨5, _⟩ =>
    refine head_value _ _ _ _ _ _ _ _ _ _ rq rk rs (bat t) (blk t) 1 1 p d (col_at t) ?_ ?_ ?_ ?_ (s5_at m c t)
    · intro j e hj
      refine (keys1_at m c t j e hj).trans ?_
      exact congrArg _ (congrArg (fun z => ix3 (bat t) _ z) (Fin.ext (by simp)))
    · intro j e hj
      refine (values1_at m c t j e hj).trans ?_
      exact congrArg _ (congrArg (fun z => ix3 (bat t) _ z) (Fin.ext (by simp)))
    · intro e
      rw [q5_at]
      rfl
    · intro j
      rw [b5_at, read8]
      rfl
  | ⟨6, _⟩ =>
    refine head_value _ _ _ _ _ _ _ _ _ _ rq rk rs (bat t) (blk t) 1 2 p d (col_at t) ?_ ?_ ?_ ?_ (s6_at m c t)
    · intro j e hj
      refine (keys1_at m c t j e hj).trans ?_
      exact congrArg _ (congrArg (fun z => ix3 (bat t) _ z) (Fin.ext (by simp)))
    · intro j e hj
      refine (values1_at m c t j e hj).trans ?_
      exact congrArg _ (congrArg (fun z => ix3 (bat t) _ z) (Fin.ext (by simp)))
    · intro e
      rw [q6_at]
      rfl
    · intro j
      rw [b6_at, read8]
      rfl
  | ⟨7, _⟩ =>
    refine head_value _ _ _ _ _ _ _ _ _ _ rq rk rs (bat t) (blk t) 1 3 p d (col_at t) ?_ ?_ ?_ ?_ (s7_at m c t)
    · intro j e hj
      refine (keys1_at m c t j e hj).trans ?_
      exact congrArg _ (congrArg (fun z => ix3 (bat t) _ z) (Fin.ext (by simp)))
    · intro j e hj
      refine (values1_at m c t j e hj).trans ?_
      exact congrArg _ (congrArg (fun z => ix3 (bat t) _ z) (Fin.ext (by simp)))
    · intro e
      rw [q7_at]
      rfl
    · intro j
      rw [b7_at, read8]
      rfl

/-- The call's result array is the reference's, of real queries, keys and sinks. -/
theorem final9 (c : Dev nD) (rq : ∀ i, ∃ r : ℝ, X0 m c i = (r : EReal)) (rk : ∀ i, ∃ r : ℝ, X1 m c i = (r : EReal))
    (rs : ∀ i, ∃ r : ℝ, X3 m c i = (r : EReal)) :
    (dats m 0 c).arrAt 9 cfg0.N = val_main_v95 (F := Ideal) (X0 m c) (X1 m c) (X2 m c) (X3 m c) := by
  refine (dats m 0 c).arrAt_eq_of_covers 9 _ (by decide +kernel) fun t hf y => ?_
  blk_simp
  rw [after0_9, outs_eq]
  idx_vars y
  have he : ((View.whole main_v30).slice (win0_9.rect t)).emb (ix3 y0 y1 y2) = ix3 (bat t) ⟨(blk t).val * 128 + y1.val, by omega⟩ y2 := by
    blk_point [idx t, bat, blk]
  rw [he]
  have e1 : k0_pay1 (truncf .bf16 (heads m c t) bitsLt_bf16_f32) (ix3 y0 y1 y2) = heads m c t (ix2 y1 y2) := by
    generalize heads m c t = y
    unfold k0_pay1
    pointwise
  have e2 : y2 = ⟨(⟨y2.val / 64, by omega⟩ : Fin 8).val * 64 + (⟨y2.val % 64, by omega⟩ : Fin 64).val, by dsimp only; omega⟩ :=
    Fin.ext (by dsimp only; omega)
  rw [e1, e2, heads_at, each_head m c rq rk rs]

end Cert.Proof.AttnValue

end
-- ==== Proof.Attn.Claim.lean ====
/-
  The claims about the attention call, from the two runs and from what the result array holds.
-/
module

public import proofs.«01_k».proof.Proof.Attn.Value
public import proofs.«01_k».proof.Proof.Gen.Attn.Frame
public import proofs.«01_k».proof.Proof.Gen.AttnRefIdeal.Run
public import proofs.«01_k».proof.Defs
public import Idealize.ShloMosaic.Lib.Quiescent

@[expose] public section

set_option maxRecDepth 16384

noncomputable section

open Idealize.ShloMosaic Idealize.ShloMosaic.TcCoe Idealize.SL.Sem

namespace Cert.Proof.AttnClaims

/-- The side conditions of the precondition's operations. -/
instance pre_facts : Cert.Pre_real_scores.Facts := ⟨by decide, by decide, by decide, by decide⟩

/-- The printed kernel's frame. -/
theorem frame_p : Cert.quiescent_Attn := fun m ρ _ => Cert.Attn.Gen.frame m ρ
/-- The idealized kernel's frame. -/
theorem frame_pi : Cert.quiescent_AttnIdeal := fun m ρ _ => Cert.AttnIdeal.Gen.frame m ρ
/-- The idealized kernel's frame, of real scores. -/
theorem frame_pi_pre : Cert.quiescent_AttnIdeal_pre_real_scores := fun m ρ _ => Cert.AttnIdeal.Gen.frame m ρ
/-- The reference's frame: its run read at the arguments; it declares no semaphore. -/
theorem frame_ri : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)
/-- The reference's frame, of real scores. -/
theorem frame_ri_pre : Cert.quiescent_AttnRefIdeal_pre_real_scores := fun m ρ _ => frame_ri m ρ trivial

/-- The ideal pass reads the masking constant as −∞ and rewrites nothing else. -/
theorem preserves : Cert.preserves_Attn_AttnIdeal :=
  IdealRules.named_const.statement Cert.AttnIdeal.κ "neg" .f32 0xF149F2CA#32 ⊥ rfl

/-- An extended real whose magnitude is below +∞ is a real number. -/
theorem real_of (x : EReal) (h : BitVec.ofBool (decide (max x (-x) < Ideal.ofBits .f32 0x7F800000#32)) = 1#1) :
    ∃ r : ℝ, x = (r : EReal) := by
  have e : Ideal.ofBits .f32 0x7F800000#32 = ⊤ := by simp [Ideal.ofBits, Ideal.ieee]
  rw [e] at h
  induction x with
  | bot => simp at h
  | top => simp at h
  | coe r => exact ⟨r, rfl⟩

/-- The result is the reference's, of arguments that agree and real scores. -/
theorem algebraic : Cert.algebraic_AttnIdeal_AttnRefIdeal_pre_real_scores := by
  intro m ρ m' ρ' hpre hagree
  refine ⟨fun c => (Cert.AttnIdeal.Gen.dats m 0 c).arrAt 9 Cert.AttnIdeal.cfg0.N,
    (θ_run Cert.AttnIdeal.defs _ _).mono (fun r h c => ?_) (Cert.AttnIdeal.Value.run_blocks (F := Ideal) m ρ),
    (θ_run Cert.AttnRefIdeal.defs _ _).mono (fun r h c => ?_) (Cert.AttnRefIdeal.Value.run (F := Ideal) m' ρ')⟩
  · exact h c
  · obtain ⟨h0, h1, h2, h3⟩ := hagree c
    obtain ⟨p0, p1, p2⟩ := hpre c
    obtain ⟨g0, ga⟩ := h c
    refine ⟨g0.trans ?_, ga⟩
    rw [Cert.AttnRefIdeal.Read.val_main_v95_eq, h0, h1, h2, h3]
    exact (AttnValue.final9 m c (fun i => real_of _ (congrFun p0 i)) (fun i => real_of _ (congrFun p1 i))
      (fun i => real_of _ (congrFun p2 i))).symm

end Cert.Proof.AttnClaims

end
-- ==== Proof.Experts.Tab.lean ====
/-
  The frame of the experts' call at a VARIABLE table: the two prefetched tables are a parameter, of which only this
  is known, that every word of the first names one of the 64 experts. The body's runs are the generated ones; the
  schedule, the trajectory of the three weight scratches and the launch follow the generated text for one table,
  with each decided fact proved for every table instead.
-/
module

public import proofs.«01_k».proof.Proof.Gen.ExpertsIdeal.Flash.Runs
public import Idealize.ShloMosaic.Lib.Pipeline.Quiescent
public import Idealize.ShloMosaic.Lib.Claim

@[expose] public section

set_option maxRecDepth 16384
set_option Elab.async false

noncomputable section

namespace Cert.ExpertsIdeal.Tab

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The two tables, the first's words below 64. -/
structure Tables where
  be : S320.Idx → BitVec 32
  nu : S1.Idx → BitVec 32
  small : ∀ x, (be x).toNat < 64

variable (ch : Tables)

/-- The first table's words. -/
def pinT_0 (ch : Tables) : S320.Idx → BitVec 32 := ch.be
/-- The second's. -/
def pinT_1 (ch : Tables) : S1.Idx → BitVec 32 := ch.nu

/-- The tables' contents. -/
def pfN : pre0.Contents (Elt Ideal) := fun | ⟨0, _⟩ => pinT_0 ch | ⟨1, _⟩ => pinT_1 ch | ⟨_ + 2, h⟩ => absurd h (by simp)

/-- The launch memory holds the tables. -/
def Pinned (m : (ℓ : Loc nD τ sig) → Buf (Elt Ideal) ℓ) : Prop :=
  (∀ c : Dev nD, m ((c : Thread nD τ).loc main_arg1) = pinT_0 ch)
  ∧ (∀ c : Dev nD, m ((c : Thread nD τ).loc main_arg2) = pinT_1 ch)

/-- A non-negative word is its own magnitude. -/
theorem toNat_le_of_toInt {x y : BitVec 32} (hx : 0 ≤ x.toInt) (h : x.toInt ≤ y.toInt) : x.toNat ≤ y.toNat := by
  have a := BitVec.toInt_eq_toNat_cond x
  have b := BitVec.toInt_eq_toNat_cond y
  have := x.isLt; have := y.isLt
  split at a <;> split at b <;> omega

/-- The clamp of the row blocks: never above the first operand. -/
theorem clamp_le (a n : BitVec 32) (ha : a.toNat < 320) : (Scalar.minsi a (Scalar.maxsi n 0#32)).toNat ≤ a.toNat := by
  have ha' : a.toInt = a.toNat := by
    have := BitVec.toInt_eq_toNat_cond a
    split at this <;> omega
  have h0 : 0 ≤ (Scalar.maxsi n 0#32).toInt := by
    show 0 ≤ (if BitVec.slt 0#32 n then n else 0#32).toInt
    split
    · rename_i h; simp [BitVec.slt] at h; omega
    · decide
  show (if a.slt (Scalar.maxsi n 0#32) then a else Scalar.maxsi n 0#32).toNat ≤ a.toNat
  split
  · exact le_rfl
  · rename_i h
    simp [BitVec.slt] at h
    exact toNat_le_of_toInt h0 h

theorem at_small (i : grid0.Coords) : (Pipeline.Prefetch.Contents.at (pfN ch) 0 (Rect.unit (s := S320) (k0_off1 i) S1.size (k0_off1_inb i)) numel1_S1 : BitVec 32).toNat < 64 :=
  ch.small _

theorem ok_0 (i : grid0.Coords) : ∀ a, (cc0_transform_0 inb_S1_S1_0 numel1_S1 (pfN ch) i a + 1) * S256x1024.size a ≤ S81920x1024.size a := by
  have r : (i 0).val < 320 := (i 0).isLt
  have hi : (BitVec.ofNat 32 (i 0).val).toNat = (i 0).val := by rw [BitVec.toNat_ofNat]; omega
  unfold cc0_transform_0
  refine okcons ?_ (okcons (by decide) (fun a => a.elim0))
  have := clamp_le (BitVec.ofNat 32 (i 0).val) (Scalar.subi (Pipeline.Prefetch.Contents.at (pfN ch) 1 (Rect.unit (s := S1) ![0] S1.size inb_S1_S1_0) numel1_S1) 1#32) (by omega)
  omega
theorem ok_1 (i : grid0.Coords) : ∀ a, (cc0_transform_1 k0_off1_inb numel1_S1 (pfN ch) i a + 1) * S1x1024x512.size a ≤ S64x1024x512.size a := by
  have := at_small ch i
  unfold cc0_transform_1
  exact okcons (show (_ + 1) * 1 ≤ 64 by rw [Nat.mul_one]; exact this) (okcons (by decide) (okcons (by decide) (fun a => a.elim0)))
theorem ok_2 (i : grid0.Coords) : ∀ a, (cc0_transform_2 k0_off1_inb numel1_S1 (pfN ch) i a + 1) * S1x1024x512.size a ≤ S64x1024x512.size a := ok_1 ch i
theorem ok_3 (i : grid0.Coords) : ∀ a, (cc0_transform_3 k0_off1_inb numel1_S1 (pfN ch) i a + 1) * S1x512x1024.size a ≤ S64x512x1024.size a := by
  have := at_small ch i
  unfold cc0_transform_3
  exact okcons (show (_ + 1) * 1 ≤ 64 by rw [Nat.mul_one]; exact this) (okcons (by decide) (okcons (by decide) (fun a => a.elim0)))

/-- Every block lies inside its array. -/
theorem ok_pfN : ok0 (F := Ideal) (pfN ch) :=
  ⟨fun i => ⟨ok_0 ch i, .inl rfl⟩, fun i => ⟨ok_1 ch i, .inl rfl⟩, fun i => ⟨ok_2 ch i, .inl rfl⟩, fun i => ⟨ok_3 ch i, .inl rfl⟩⟩

/-- The admissible contents, the pipeline at them (`cfgA ch`: member `ch`'s grid, 320 points), as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S256x1024 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1024x512 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1024x512 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x512x1024 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S256x1024 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.ori (Scalar.cmpi .eq (BitVec.ofNat 32 ((crd ch t) 0).val) 0#32) (Scalar.cmpi .ne (View.readAt (Elt Ideal) (tbM0_0).view (Rect.unit (s := S320) (k0_off1 (crd ch t)) S1.size (k0_off1_inb (crd ch t))).toLoadRect (pinT_0 ch) (Shape.Idx.first (numel1_S1.symm ▸ Nat.one_pos))) (View.readAt (Elt Ideal) (tbM0_0).view (Rect.unit (s := S320) (k0_off2 (crd ch t)) S1.size (k0_off2_inb (crd ch t))).toLoadRect (pinT_0 ch) (Shape.Idx.first (numel1_S1.symm ▸ Nat.one_pos))))))) 0#32) = 1#1
abbrev P0_1 (t : Fin (cfgA ch).N) : Prop := k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1

/-- Whether the scratches hold nothing a point has determined, before position `n`: until a point of path A has run. -/
def sfresh0_0 : ℕ → Bool
  | 0 => true
  | n + 1 => if h : n < (cfgA ch).N then (if P0_0 ch ⟨n, h⟩ then false else sfresh0_0 n) else true

/-! ## The decisions -/

theorem one_bit (x : BitVec 1) : x = 0#1 ∨ x = 1#1 := by revert x; decide

theorem decide_A (s e n : BitVec 1) :
    Scalar.cmpi .ne (Scalar.extui (Scalar.andi s (Scalar.ori e n)) : BitVec 32) 0#32 = 1#1 ↔ (s = 1#1 ∧ (e = 1#1 ∨ n = 1#1)) := by
  rcases one_bit s with rfl | rfl <;> rcases one_bit e with rfl | rfl <;> rcases one_bit n with rfl | rfl <;> decide

theorem cond2_iff (i : grid0.Coords) (v : BitVec 32) : k0_cond2 i v = 1#1 ↔ Scalar.cmpi .slt (BitVec.ofNat 32 (i 0).val) v = 1#1 := by
  show Scalar.cmpi .ne (Scalar.extui (Scalar.cmpi .slt (BitVec.ofNat 32 (i 0).val) v) : BitVec 32) 0#32 = 1#1 ↔ _
  generalize Scalar.cmpi .slt (BitVec.ofNat 32 (i 0).val) v = s
  rcases one_bit s with rfl | rfl <;> decide

theorem cond3_iff (i : grid0.Coords) (v : BitVec 32) : k0_cond3 i v = 1#1 ↔ ¬ k0_cond2 i v = 1#1 := by
  rw [cond2_iff]
  show Scalar.cmpi .ne (Scalar.extui (Scalar.xori (Scalar.cmpi .slt (BitVec.ofNat 32 (i 0).val) v) 1#1) : BitVec 32) 0#32 = 1#1 ↔ _
  generalize Scalar.cmpi .slt (BitVec.ofNat 32 (i 0).val) v = s
  rcases one_bit s with rfl | rfl <;> decide

theorem P_A (t : Fin (cfgA ch).N) (q0 : P0_0 ch t) : P0_1 ch t := (cond2_iff _ _).2 ((decide_A _ _ _).1 q0).1

/-- A point's coordinate is its position. -/
theorem crd_val (t : Fin (cfgA ch).N) : ((crd ch t) 0).val = t.val := by
  have h : t.val < 320 := t.isLt.trans_eq N_0
  show t.val / 1 % 320 = t.val
  omega

theorem P_A_zero (t : Fin (cfgA ch).N) (ht : t.val = 0) (q1 : P0_1 ch t) : P0_0 ch t := by
  refine (decide_A _ _ _).2 ⟨(cond2_iff _ _).1 q1, Or.inl ?_⟩
  rw [crd_val, ht]; decide

theorem slt_mono (a b : ℕ) (v : BitVec 32) (h : a ≤ b) (hb : b < 320) (hs : Scalar.cmpi .slt (BitVec.ofNat 32 b) v = 1#1) :
    Scalar.cmpi .slt (BitVec.ofNat 32 a) v = 1#1 := by
  have e : ∀ n : ℕ, n < 320 → (BitVec.ofNat 32 n).toInt = n := fun n hn => by
    have := BitVec.toInt_eq_toNat_cond (BitVec.ofNat 32 n)
    rw [BitVec.toNat_ofNat] at this
    split at this <;> omega
  have f : ∀ n : ℕ, n < 320 → (Scalar.cmpi .slt (BitVec.ofNat 32 n) v = 1#1 ↔ (n : ℤ) < v.toInt) := fun n hn => by
    show BitVec.ofBool ((BitVec.ofNat 32 n).slt v) = 1#1 ↔ _
    unfold BitVec.slt
    rw [e n hn]
    by_cases hh : (n : ℤ) < v.toInt <;> simp [hh]
  rw [f a (by omega)]
  rw [f b hb] at hs
  omega

/-- A used point has only used points before it. -/
theorem P_1_mono (t u : Fin (cfgA ch).N) (h : u.val ≤ t.val) (q1 : P0_1 ch t) : P0_1 ch u := by
  have q := (cond2_iff _ _).1 q1
  refine (cond2_iff _ _).2 ?_
  rw [crd_val] at q ⊢
  exact slt_mono _ _ _ h (t.isLt.trans_eq N_0) q

theorem sfresh_succ (t : Fin (cfgA ch).N) : sfresh0_0 ch (t.val + 1) = if P0_0 ch t then false else sfresh0_0 ch t.val := by
  obtain ⟨n, h⟩ := t
  simp only [sfresh0_0, dif_pos h]

/-- After a used point the scratches are determined. -/
theorem sfresh_used (t : Fin (cfgA ch).N) (q1 : P0_1 ch t) : sfresh0_0 ch (t.val + 1) = false := by
  obtain ⟨n, h⟩ := t
  induction n with
  | zero => rw [sfresh_succ, if_pos (P_A_zero ch _ rfl q1)]
  | succ n ih =>
    rw [sfresh_succ]
    split
    · rfl
    · exact ih (Nat.lt_of_succ_lt h) (P_1_mono ch _ ⟨n, Nat.lt_of_succ_lt h⟩ (Nat.le_succ n) q1)

theorem sfresh_B (t : Fin (cfgA ch).N) (q0 : ¬P0_0 ch t) (q1 : P0_1 ch t) : sfresh0_0 ch t.val = false := by
  have := sfresh_used ch t q1
  rwa [sfresh_succ, if_neg q0] at this

theorem sfresh_C (t : Fin (cfgA ch).N) (q0 : ¬P0_0 ch t) : sfresh0_0 ch (t.val + 1) = sfresh0_0 ch t.val := by
  rw [sfresh_succ, if_neg q0]

/-- The output is stored at every point. -/
theorem live (t : Fin (cfgA ch).N) : (cfgA ch).idle (4 : Fin 5) ((cfgA ch).grid.coords t) = false := by
  have : ∀ (i : grid0.Coords) (v : BitVec 32), (!(k0_cond2 i v == 1#1) && !(k0_cond3 i v == 1#1)) = false := fun i v => by
    by_cases h : k0_cond2 i v = 1#1
    · simp [h]
    · simp [(cond3_iff i v).2 h]
  exact this _ _

/-- Every block is written back when its point ends. -/
theorem flush4 (t : Fin (cfgA ch).N) : ((cfgA ch).win (4 : Fin 5)).flush t = true := by
  rw [Pipeline.Window.flush_eq_flushF]
  unfold Pipeline.Window.flushF
  rw [show ((cfgA ch).win (4 : Fin 5)).isOut = true from rfl, Bool.true_and, Bool.or_eq_true]
  by_cases h : t.val + 1 = (cfgA ch).grid.N
  · exact Or.inl (decide_eq_true h)
  · refine Or.inr (decide_eq_true ⟨lt_of_le_of_ne (Nat.succ_le_of_lt t.isLt) h, (0 : Fin 2), ?_⟩)
    have e : ∀ u : Fin (cfgA ch).N, ((cfgA ch).win (4 : Fin 5)).index u (0 : Fin 2) = u.val := fun u => by
      show (BitVec.ofNat 32 ((crd ch u) 0).val).toNat = u.val
      have : u.val < 320 := u.isLt.trans_eq N_0
      rw [crd_val, BitVec.toNat_ofNat]; omega
    rw [e, e]
    show t.val + 1 ≠ t.val
    omega

theorem fresh4 (t : Fin (cfgA ch).N) : (cfgA ch).fresh (4 : Fin 5) t.val = true := by
  obtain ⟨n, h⟩ := t
  cases n with
  | zero => rfl
  | succ n => rw [Pipeline.Cfg.fresh_succ _ _ _ (Nat.lt_of_succ_lt h), flush4]; rfl

theorem hypsR0_A (ch : Tables) (t : Fin (cfgA ch).N) (q0 : P0_0 ch t) :
    ((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.ori (Scalar.cmpi .eq (BitVec.ofNat 32 ((crd ch t) 0).val) 0#32) (Scalar.cmpi .ne (View.readAt (Elt Ideal) (tbM0_0).view (Rect.unit (s := S320) (k0_off1 (crd ch t)) S1.size (k0_off1_inb (crd ch t))).toLoadRect (pinT_0 ch) (Shape.Idx.first (numel1_S1.symm ▸ Nat.one_pos))) (View.readAt (Elt Ideal) (tbM0_0).view (Rect.unit (s := S320) (k0_off2 (crd ch t)) S1.size (k0_off2_inb (crd ch t))).toLoadRect (pinT_0 ch) (Shape.Idx.first (numel1_S1.symm ▸ Nat.one_pos))))))) 0#32) = 1#1) ∧ (k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ True :=
  ⟨q0, P_A ch t q0, fun h => (cond3_iff _ _).1 h (P_A ch t q0), trivial⟩
theorem hypsR0_B (ch : Tables) (t : Fin (cfgA ch).N) (q0 : ¬P0_0 ch t) (q1 : P0_1 ch t) :
    (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.ori (Scalar.cmpi .eq (BitVec.ofNat 32 ((crd ch t) 0).val) 0#32) (Scalar.cmpi .ne (View.readAt (Elt Ideal) (tbM0_0).view (Rect.unit (s := S320) (k0_off1 (crd ch t)) S1.size (k0_off1_inb (crd ch t))).toLoadRect (pinT_0 ch) (Shape.Idx.first (numel1_S1.symm ▸ Nat.one_pos))) (View.readAt (Elt Ideal) (tbM0_0).view (Rect.unit (s := S320) (k0_off2 (crd ch t)) S1.size (k0_off2_inb (crd ch t))).toLoadRect (pinT_0 ch) (Shape.Idx.first (numel1_S1.symm ▸ Nat.one_pos))))))) 0#32) = 1#1)) ∧ (k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ True :=
  ⟨q0, q1, fun h => (cond3_iff _ _).1 h q1, trivial⟩
theorem hypsR0_C (ch : Tables) (t : Fin (cfgA ch).N) (q0 : ¬P0_0 ch t) (q1 : ¬P0_1 ch t) :
    (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.ori (Scalar.cmpi .eq (BitVec.ofNat 32 ((crd ch t) 0).val) 0#32) (Scalar.cmpi .ne (View.readAt (Elt Ideal) (tbM0_0).view (Rect.unit (s := S320) (k0_off1 (crd ch t)) S1.size (k0_off1_inb (crd ch t))).toLoadRect (pinT_0 ch) (Shape.Idx.first (numel1_S1.symm ▸ Nat.one_pos))) (View.readAt (Elt Ideal) (tbM0_0).view (Rect.unit (s := S320) (k0_off2 (crd ch t)) S1.size (k0_off2_inb (crd ch t))).toLoadRect (pinT_0 ch) (Shape.Idx.first (numel1_S1.symm ▸ Nat.one_pos))))))) 0#32) = 1#1)) ∧ (¬(k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1) ∧ True :=
  ⟨q0, q1, (cond3_iff _ _).2 q1, trivial⟩

theorem sched0_A (ch : Tables) (t : Fin (cfgA ch).N) (q0 : P0_0 ch t) :
    (cfgA ch).idle (4 : Fin 5) ((cfgA ch).grid.coords t) = false ∧ ((cfgA ch).win (4 : Fin 5)).flush t = true ∧ (cfgA ch).fresh (4 : Fin 5) t.val = true ∧ sfresh0_0 ch (t.val + 1) = false :=
  ⟨live ch t, flush4 ch t, fresh4 ch t, by rw [sfresh_succ, if_pos q0]⟩
theorem sched0_B (ch : Tables) (t : Fin (cfgA ch).N) (q0 : ¬P0_0 ch t) (q1 : P0_1 ch t) :
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false :=
  ⟨live ch t, flush4 ch t, fresh4 ch t, sfresh_B ch t q0 q1, sfresh_used ch t q1⟩
theorem sched0_C (ch : Tables) (t : Fin (cfgA ch).N) (q0 : ¬P0_0 ch t) (q1 : ¬P0_1 ch t) :
    (cfgA ch).idle (4 : Fin 5) ((cfgA ch).grid.coords t) = false ∧ ((cfgA ch).win (4 : Fin 5)).flush t = true ∧ (cfgA ch).fresh (4 : Fin 5) t.val = true :=
  ⟨live ch t, flush4 ch t, fresh4 ch t⟩

/-- The proof's resource algebra. -/
abbrev EP : Emb (UR sig nD τ) 𝕄 := emb₁

/-! ## What the outputs and scratches hold after each point -/

/-- ONE STEP of the trajectory: what the outputs' current buffers and the scratches hold after the body at point `t`
    (output 4, scratch 0, scratch 1, scratch 2), from what they held before (`prev`): the path the decisions select at `t`, its
    run's contents; an output the path leaves idle keeps what it held (junk — `default`, named by nothing — where fresh). -/
def step0 (c : Dev nD) (t : Fin (cfgA ch).N) (prev : (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) : (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if q0 : P0_0 ch t then
    (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.2.2.1)
  else
    if q1 : P0_1 ch t then
      (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.2.1)
    else
      (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.2.2.1)

/-- THE TRAJECTORY: after position `n`. -/
def traj0 (c : Dev nD) : (n : ℕ) → n < (cfgA ch).N → (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)
  | 0, h => step0 ch m ρ c ⟨0, h⟩ (default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : P0_0 ch t) :
    step0 ch m ρ c t prev = (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.2.2.1) := by
  unfold step0; simp only [dif_pos q0]

/-- `step0` at a point of path B. -/
theorem step0_B (c : Dev nD) (t : Fin (cfgA ch).N) (prev : (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : ¬P0_0 ch t) (q1 : P0_1 ch t) :
    step0 ch m ρ c t prev = (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.2.1) := by
  unfold step0; simp only [dif_neg q0, dif_pos q1]

/-- `step0` at a point of path C. -/
theorem step0_C (c : Dev nD) (t : Fin (cfgA ch).N) (prev : (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : ¬P0_0 ch t) (q1 : ¬P0_1 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.2.2.1) := by
  unfold step0; simp only [dif_neg q0, dif_neg q1]

/-! ## The pipeline's proof data -/

/-- What the tracked buffers held before position `t` of `Fin (N+1)` (the invariant's index). -/
def prev0T (c : Dev nD) (t : Fin ((cfgA ch).N + 1)) : (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_0 ch t.val = false → a = (prev0T ch m ρ c t).2.2.1⌝ ∗ (scM0_1.view.loc (c : Thread nD τ) ↦{fullShare} a)) ∗ (∃ a, ⌜sfresh0_0 ch t.val = false → a = (prev0T ch m ρ c t).2.2.2⌝ ∗ (scM0_2.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · obtain ⟨i4, -, -, -⟩ := sched0_A ch t q0
    rw [i4] at hi; exact absurd hi (by decide)
  · by_cases q1 : P0_1 ch t
    · obtain ⟨i4, -, -, -, -⟩ := sched0_B ch t q0 q1
      rw [i4] at hi; exact absurd hi (by decide)
    · obtain ⟨i4, -, -⟩ := sched0_C ch t q0 q1
      rw [i4] at hi; exact absurd hi (by decide)

/-- Output window 4 holds, when the body runs at `t`: junk if nothing was stored since its last write-back (`Cfg.fresh`),
    else what the point before left (TableIdle.lean `Dat.before_out_traj`). -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_experts (crd ch t) (Memref.whole main_arg1) (Memref.isWhole_whole _) (Memref.whole main_arg2) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _) (Memref.whole cc0_scratch2) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i4, f4, fr4, sfn0⟩ := sched0_A ch t q0
    have F0 := hypsR0_A ch t q0
    have hc0 := F0.1; have F1 := F0.2
    have k0_h2 := F1.1; have F2 := F1.2
    have k0_h3 := F2.1; have F3 := F2.2
    clear F0 F1 F2 F3
    rewrite [i4]
    simp only [before0_0, before0_1, before0_2, before0_3, before0_4, after0_0, after0_1, after0_2, after0_3, after0_4, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) hc0 k0_h2 k0_h3).2.2.2.2 a0 a1 a2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn0]; decide) | decide)
      isplitl [HS2]
      · iexists _; isplitr; swap
        · iexact HS2
        · ipureintro; intro hn; first | rfl | exact absurd hn (by first | (rw [sfn0]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _ _)
  · by_cases q1 : P0_1 ch t
    · obtain ⟨i4, f4, fr4, sf0, sfn0⟩ := sched0_B ch t q0 q1
      have F0 := hypsR0_B ch t q0 q1
      have hc0 := F0.1; have F1 := F0.2
      have k0_h2 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0]
      iintro ⟨⟨HS0, HS1, HS2, HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ _ hc0 k0_h2 k0_h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn0]; decide) | decide)
        isplitl [HS2]
        · iexists _; isplitr; swap
          · iexact HS2
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _ _ _ _)
    · obtain ⟨i4, f4, fr4⟩ := sched0_C ch t q0 q1
      have F0 := hypsR0_C ch t q0 q1
      have hc0 := F0.1; have F1 := F0.2
      have k0_h2 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) a0 a1 a2 hc0 k0_h2 k0_h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; exact ha0 ((sfresh_C ch t q0).symm.trans hn)
        isplitl [HS1]
        · iexists _; isplitr; swap
          · iexact HS1
          · ipureintro; intro hn; exact ha1 ((sfresh_C ch t q0).symm.trans hn)
        isplitl [HS2]
        · iexists _; isplitr; swap
          · iexact HS2
          · ipureintro; intro hn; exact ha2 ((sfresh_C ch t q0).symm.trans hn)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _ _ _ _ _)

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_0 ch 0 = true from rfl)) Bool.false_ne_true
  isplitl [HS2]
  · iexists a2; isplitr; swap
    · iexact HS2
    · ipureintro; intro h; exact absurd (h.symm.trans (show sfresh0_0 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 (0 : Fin 5)).trans ((dats ch m ρ 0 c).arrAt_in (0 : Fin 5) rfl _), ((h c).2 0).trans (hp.1 c).symm, ((h c).2 1).trans (hp.2 c).symm, ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- THE FRAME under the pinning: from a launch memory whose tables and steering words are member `ch`'s, every weakly fair
    execution terminates, nothing faults, every argument array ends unchanged and every semaphore counter of the machine reads
    zero at every final state — `Cert.quiescent_ExpertsIdeal`'s post. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.ExpertsIdeal.Tab

end
-- ==== Proof.Experts.Step.lean ====
/-
  One step of the experts' trajectory, opened to the kernel's payloads.
-/
module

public import proofs.«01_k».proof.Proof.Experts.Tab
public import Idealize.ShloMosaic.Lib.Pipeline.ValueKit

@[expose] public section

set_option maxRecDepth 16384
set_option maxHeartbeats 4000000

noncomputable section

namespace Cert.ExpertsIdeal.Tab

open Cert.ExpertsIdeal Cert.ExpertsIdeal.Gen
open Idealize.ShloMosaic
open Idealize.ShloMosaic.TcCoe Idealize.ShloMosaic.Tactic
open Idealize.SL Idealize.SL.Sem
open Idealize.ShloMosaic.Pipeline (Dat Cfg Window)

variable (ch : Tables) (m : (ℓ : Loc nD τ sig) → Buf (Elt Ideal) ℓ) (ρ : Dev nD → PrngReg) (c : Dev nD)

/-- What is held between points: an output block and the three weight scratches. -/
abbrev Held := (S256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)

variable (t : Fin (cfgA ch).N) (prev : Held c)

theorem off2 : ∀ a : Fin 2, (![0, 0] : Fin 2 → ℕ) a = 0 := by decide

/-- A weight scratch stored whole holds what was stored. -/
theorem canon_w (w : S1024x512.Idx → Elt Ideal .bf16) :
    View.canon (Val := Elt Ideal) [⟨Rect.unit (s := S1024x512) ![0, 0] ![1024, 512] inb_S1024x512_S1024x512_0_0, w⟩] = w :=
  View.canon_cons_unit_lit (S := S1024x512) (off := ![0, 0]) inb_S1024x512_S1024x512_0_0 w [] off2
theorem canon_o (w : S512x1024.Idx → Elt Ideal .bf16) :
    View.canon (Val := Elt Ideal) [⟨Rect.unit (s := S512x1024) ![0, 0] ![512, 1024] inb_S512x1024_S512x1024_0_0, w⟩] = w :=
  View.canon_cons_unit_lit (S := S512x1024) (off := ![0, 0]) inb_S512x1024_S512x1024_0_0 w [] off2

theorem A_s0 (q0 : P0_0 ch t) : (step0 ch m ρ c t prev).2.1 = k0_pay1 (iblk ch m ρ c (1 : Fin 5) t) := by
  rw [step0_A ch m ρ c t prev q0]
  frame_out
  rw [View.read_rep]
  generalize k0_pay1 (iblk ch m ρ c (1 : Fin 5) t) = w
  refine (View.read_whole cc0_scratch0 _).symm.trans ?_
  frame_out
  exact canon_w w
theorem A_s1 (q0 : P0_0 ch t) : (step0 ch m ρ c t prev).2.2.1 = k0_pay2 (iblk ch m ρ c (2 : Fin 5) t) := by
  rw [step0_A ch m ρ c t prev q0]
  frame_out
  rw [View.read_rep]
  generalize k0_pay2 (iblk ch m ρ c (2 : Fin 5) t) = w
  refine (View.read_whole cc0_scratch1 _).symm.trans ?_
  frame_out
  exact canon_w w
theorem A_s2 (q0 : P0_0 ch t) : (step0 ch m ρ c t prev).2.2.2 = k0_pay3 (iblk ch m ρ c (3 : Fin 5) t) := by
  rw [step0_A ch m ρ c t prev q0]
  frame_out
  rw [View.read_rep]
  generalize k0_pay3 (iblk ch m ρ c (3 : Fin 5) t) = w
  refine (View.read_whole cc0_scratch2 _).symm.trans ?_
  frame_out
  exact canon_o w
theorem A_out (q0 : P0_0 ch t) : (step0 ch m ρ c t prev).1 = k0_pay4 (iblk ch m ρ c (0 : Fin 5) t) (k0_pay1 (iblk ch m ρ c (1 : Fin 5) t)) (k0_pay2 (iblk ch m ρ c (2 : Fin 5) t)) (k0_pay3 (iblk ch m ρ c (3 : Fin 5) t)) := by
  rw [step0_A ch m ρ c t prev q0]
  frame_out
  rw [View.read_rep, View.read_rep, View.read_rep, View.read_rep]
theorem B_s0 (q0 : ¬P0_0 ch t) (q1 : P0_1 ch t) : (step0 ch m ρ c t prev).2.1 = prev.2.1 := by
  rw [step0_B ch m ρ c t prev q0 q1]
  frame_out
theorem B_s1 (q0 : ¬P0_0 ch t) (q1 : P0_1 ch t) : (step0 ch m ρ c t prev).2.2.1 = prev.2.2.1 := by
  rw [step0_B ch m ρ c t prev q0 q1]
  frame_out
theorem B_s2 (q0 : ¬P0_0 ch t) (q1 : P0_1 ch t) : (step0 ch m ρ c t prev).2.2.2 = prev.2.2.2 := by
  rw [step0_B ch m ρ c t prev q0 q1]
  frame_out
theorem B_out (q0 : ¬P0_0 ch t) (q1 : P0_1 ch t) : (step0 ch m ρ c t prev).1 = k0_pay4 (iblk ch m ρ c (0 : Fin 5) t) prev.2.1 prev.2.2.1 prev.2.2.2 := by
  rw [step0_B ch m ρ c t prev q0 q1]
  frame_out
  rw [View.read_rep]
  rfl
theorem C_out (q0 : ¬P0_0 ch t) (q1 : ¬P0_1 ch t) : (step0 ch m ρ c t prev).1 = k0_pay5 (F := Ideal) := by
  rw [step0_C ch m ρ c t prev q0 q1]
  frame_out

end Cert.ExpertsIdeal.Tab

end
-- ==== Proof.Experts.Words.lean ====
/-
  What the experts' call reads at a grid point: the tables' words, and the blocks of its windows.
-/
module

public import proofs.«01_k».proof.Proof.Experts.Step
public import Idealize.ShloMosaic.Lib.Pointwise

@[expose] public section

set_option maxRecDepth 16384
set_option maxHeartbeats 1000000

noncomputable section

namespace Cert.ExpertsIdeal.Tab

open Cert.ExpertsIdeal Cert.ExpertsIdeal.Gen
open Idealize.ShloMosaic
open Idealize.ShloMosaic.TcCoe Idealize.ShloMosaic.Tactic
open Idealize.SL Idealize.SL.Sem
open Idealize.ShloMosaic.Pipeline (Dat Cfg Window)

variable (ch : Tables) (m : (ℓ : Loc nD τ sig) → Buf (Elt Ideal) ℓ) (ρ : Dev nD → PrngReg) (c : Dev nD)
variable (t : Fin (cfgA ch).N)

/-- A point as one of the 320 blocks. -/
def blk (t : Fin (cfgA ch).N) : Fin 320 := ⟨t.val, t.isLt.trans_eq N_0⟩

/-- A point's coordinate as a word reads back. -/
theorem word_val : (BitVec.ofNat 32 ((crd ch t) 0).val).toNat = t.val := by
  have h : t.val < 320 := t.isLt.trans_eq N_0
  rw [crd_val, BitVec.toNat_ofNat]; omega

/-- The number of used blocks, as the body reads it. -/
theorem word_nu : (View.readAt (Elt Ideal) (tbM0_1).view (Rect.unit (s := S1) ![0] S1.size inb_S1_S1_0).toLoadRect (pinT_1 ch) (Shape.Idx.first (numel1_S1.symm ▸ Nat.one_pos)) : BitVec 32) = ch.nu (ix1 0) := by
  refine congrArg ch.nu (funext fun a => Fin.ext ?_)
  match a with | ⟨0, _⟩ => rfl

/-- A block's word, as the body reads it. -/
theorem word_be : (View.readAt (Elt Ideal) (tbM0_0).view (Rect.unit (s := S320) (k0_off1 (crd ch t)) S1.size (k0_off1_inb (crd ch t))).toLoadRect (pinT_0 ch) (Shape.Idx.first (numel1_S1.symm ▸ Nat.one_pos)) : BitVec 32) = ch.be (ix1 (blk ch t)) := by
  refine congrArg ch.be (funext fun a => Fin.ext ?_)
  match a with
  | ⟨0, _⟩ =>
    show (BitVec.ofNat 32 ((crd ch t) 0).val).toNat + 1 * 0 = t.val
    rw [word_val, Nat.mul_zero, Nat.add_zero]

/-- The word of the block before, as the body reads it. -/
theorem word_before (u : Fin (cfgA ch).N) (h : t.val = u.val + 1) : (View.readAt (Elt Ideal) (tbM0_0).view (Rect.unit (s := S320) (k0_off2 (crd ch t)) S1.size (k0_off2_inb (crd ch t))).toLoadRect (pinT_0 ch) (Shape.Idx.first (numel1_S1.symm ▸ Nat.one_pos)) : BitVec 32) = ch.be (ix1 (blk ch u)) := by
  have hl : t.val < 320 := t.isLt.trans_eq N_0
  have e : (Scalar.maxsi (Scalar.subi (BitVec.ofNat 32 ((crd ch t) 0).val) 1#32) 0#32).toNat = u.val := by
    rw [crd_val, h]
    have : ∀ n : Fin 319, (Scalar.maxsi (Scalar.subi (BitVec.ofNat 32 (n.val + 1)) 1#32) 0#32).toNat = n.val := by decide +kernel
    exact this ⟨u.val, by omega⟩
  refine congrArg ch.be (funext fun a => Fin.ext ?_)
  match a with
  | ⟨0, _⟩ =>
    show (Scalar.maxsi (Scalar.subi (BitVec.ofNat 32 ((crd ch t) 0).val) 1#32) 0#32).toNat + 1 * 0 = u.val
    rw [e, Nat.mul_zero, Nat.add_zero]

/-- A block is used when its position is below the number of used blocks. -/
theorem used_iff : P0_1 ch t ↔ Scalar.cmpi .slt (BitVec.ofNat 32 t.val) (ch.nu (ix1 0)) = 1#1 := by
  show k0_cond2 _ _ = 1#1 ↔ _
  rw [cond2_iff, word_nu, crd_val]

/-- Where the weights are not loaded again, the expert is that of the block before. -/
theorem same (u : Fin (cfgA ch).N) (h : t.val = u.val + 1) (q0 : ¬P0_0 ch t) (q1 : P0_1 ch t) :
    ch.be (ix1 (blk ch t)) = ch.be (ix1 (blk ch u)) := by
  by_contra hne
  refine q0 ((decide_A _ _ _).2 ⟨(cond2_iff _ _).1 q1, Or.inr ?_⟩)
  rw [word_be, word_before ch t u h]
  show BitVec.ofBool (ch.be (ix1 (blk ch t)) != ch.be (ix1 (blk ch u))) = 1#1
  simp [bne_iff_ne.2 hne]

/-- The expert of a block. -/
def exp_of (t : Fin (cfgA ch).N) : Fin 64 := ⟨(ch.be (ix1 (blk ch t))).toNat, ch.small _⟩

/-- The weights' block index is the block's word. -/
theorem index_be : (Pipeline.Prefetch.Contents.at (pfN ch) 0 (Rect.unit (s := S320) (k0_off1 (crd ch t)) S1.size (k0_off1_inb (crd ch t))) numel1_S1 : BitVec 32).toNat = (exp_of ch t).val := by
  have h : (Pipeline.Prefetch.Contents.at (pfN ch) 0 (Rect.unit (s := S320) (k0_off1 (crd ch t)) S1.size (k0_off1_inb (crd ch t))) numel1_S1 : BitVec 32) = ch.be (ix1 (blk ch t)) := word_be ch t
  rw [h]
  rfl

/-- The rows' block index is the point, at a used point. -/
theorem index_x (q1 : P0_1 ch t) : ((cfgA ch).win (0 : Fin 5)).index t (0 : Fin 2) = t.val := by
  have hl : t.val < 320 := t.isLt.trans_eq N_0
  have q := (used_iff ch t).1 q1
  have w : (Pipeline.Prefetch.Contents.at (pfN ch) 1 (Rect.unit (s := S1) ![0] S1.size inb_S1_S1_0) numel1_S1 : BitVec 32) = ch.nu (ix1 0) := word_nu ch
  show (Scalar.minsi (BitVec.ofNat 32 ((crd ch t) 0).val) (Scalar.maxsi (Scalar.subi (Pipeline.Prefetch.Contents.at (pfN ch) 1 (Rect.unit (s := S1) ![0] S1.size inb_S1_S1_0) numel1_S1) 1#32) 0#32)).toNat = t.val
  rw [w, crd_val]
  generalize ch.nu (ix1 0) = v at q
  have ha : (BitVec.ofNat 32 t.val).toNat = t.val := by rw [BitVec.toNat_ofNat]; omega
  have hai : (BitVec.ofNat 32 t.val).toInt = t.val := by
    have := BitVec.toInt_eq_toNat_cond (BitVec.ofNat 32 t.val)
    split at this <;> omega
  have hv : (t.val : ℤ) < v.toInt := by
    have q' : BitVec.ofBool ((BitVec.ofNat 32 t.val).slt v) = 1#1 := q
    unfold BitVec.slt at q'
    rw [hai] at q'
    by_contra hn
    simp [hn] at q'
  have hvn := BitVec.toInt_eq_toNat_cond v
  have hlt := v.isLt
  have hs : (v - 1#32).toNat = v.toNat - 1 := by
    rw [BitVec.toNat_sub]
    show (2 ^ 32 - 1 + v.toNat) % 2 ^ 32 = _
    split at hvn <;> omega
  have hsi : (v - 1#32).toInt = v.toInt - 1 := by
    have h2 := BitVec.toInt_eq_toNat_cond (v - 1#32)
    rw [hs] at h2
    split at hvn <;> split at h2 <;> omega
  have hm : Scalar.maxsi (Scalar.subi v 1#32) 0#32 = v - 1#32 ∨ (Scalar.maxsi (Scalar.subi v 1#32) 0#32).toInt = v.toInt - 1 := by
    show (if BitVec.slt 0#32 (v - 1#32) then v - 1#32 else 0#32) = _ ∨ (if BitVec.slt 0#32 (v - 1#32) then v - 1#32 else 0#32).toInt = _
    split
    · exact Or.inl rfl
    · rename_i h
      simp only [BitVec.slt, decide_eq_true_eq, not_lt] at h
      rw [hsi, show (0#32 : BitVec 32).toInt = 0 from rfl] at h
      right
      show (0 : ℤ) = _
      omega
  have hm' : (Scalar.maxsi (Scalar.subi v 1#32) 0#32).toInt = v.toInt - 1 := by
    rcases hm with h | h
    · rw [h, hsi]
    · exact h
  generalize Scalar.maxsi (Scalar.subi v 1#32) 0#32 = z at hm'
  show (if (BitVec.ofNat 32 t.val).slt z then BitVec.ofNat 32 t.val else z).toNat = t.val
  split
  · exact ha
  · rename_i h
    simp only [BitVec.slt, decide_eq_true_eq, not_lt] at h
    have hz := BitVec.toInt_eq_toNat_cond z
    have := z.isLt
    split at hz <;> omega

/-- A used point's block of rows. -/
theorem read_x (q1 : P0_1 ch t) (p : Fin 256) (k : Fin 1024) :
    iblk ch m ρ c (0 : Fin 5) t (ix2 p k) = m ((c : Thread nD τ).loc main_arg0) (ix2 ⟨(blk ch t).val * 256 + p.val, by omega⟩ k) := by
  show m ((c : Thread nD τ).loc main_arg0) ((((cfgA ch).win (0 : Fin 5)).rect t).emb (ix2 p k)) = _
  refine congrArg (m ((c : Thread nD τ).loc main_arg0)) (funext fun a => Fin.ext ?_)
  refine (Pipeline.Window.rect_emb_val ((cfgA ch).win (0 : Fin 5)) t _ a rfl).trans ?_
  match a with
  | ⟨0, _⟩ =>
    refine (congrArg (· * 256 + p.val) (index_x ch t q1)).trans ?_
    rfl
  | ⟨1, _⟩ =>
    show 0 * 1024 + k.val = k.val
    omega

/-- A point's gate weights are its expert's. -/
theorem read_w1 (k : Fin 1024) (j : Fin 512) :
    iblk ch m ρ c (1 : Fin 5) t (ix3 0 k j) = m ((c : Thread nD τ).loc main_arg3) (ix3 (exp_of ch t) k j) := by
  show m ((c : Thread nD τ).loc main_arg3) ((((cfgA ch).win (1 : Fin 5)).rect t).emb (ix3 0 k j)) = _
  refine congrArg (m ((c : Thread nD τ).loc main_arg3)) (funext fun a => Fin.ext ?_)
  refine (Pipeline.Window.rect_emb_val ((cfgA ch).win (1 : Fin 5)) t _ a rfl).trans ?_
  match a with
  | ⟨0, _⟩ =>
    refine (congrArg (· * 1 + 0) (index_be ch t)).trans ?_
    show (exp_of ch t).val * 1 + 0 = (exp_of ch t).val
    omega
  | ⟨1, _⟩ =>
    show 0 * 1024 + k.val = k.val
    omega
  | ⟨2, _⟩ =>
    show 0 * 512 + j.val = j.val
    omega
/-- A point's linear weights are its expert's. -/
theorem read_w3 (k : Fin 1024) (j : Fin 512) :
    iblk ch m ρ c (2 : Fin 5) t (ix3 0 k j) = m ((c : Thread nD τ).loc main_arg4) (ix3 (exp_of ch t) k j) := by
  show m ((c : Thread nD τ).loc main_arg4) ((((cfgA ch).win (2 : Fin 5)).rect t).emb (ix3 0 k j)) = _
  refine congrArg (m ((c : Thread nD τ).loc main_arg4)) (funext fun a => Fin.ext ?_)
  refine (Pipeline.Window.rect_emb_val ((cfgA ch).win (2 : Fin 5)) t _ a rfl).trans ?_
  match a with
  | ⟨0, _⟩ =>
    refine (congrArg (· * 1 + 0) (index_be ch t)).trans ?_
    show (exp_of ch t).val * 1 + 0 = (exp_of ch t).val
    omega
  | ⟨1, _⟩ =>
    show 0 * 1024 + k.val = k.val
    omega
  | ⟨2, _⟩ =>
    show 0 * 512 + j.val = j.val
    omega
/-- A point's output weights are its expert's. -/
theorem read_w2 (k : Fin 512) (j : Fin 1024) :
    iblk ch m ρ c (3 : Fin 5) t (ix3 0 k j) = m ((c : Thread nD τ).loc main_arg5) (ix3 (exp_of ch t) k j) := by
  show m ((c : Thread nD τ).loc main_arg5) ((((cfgA ch).win (3 : Fin 5)).rect t).emb (ix3 0 k j)) = _
  refine congrArg (m ((c : Thread nD τ).loc main_arg5)) (funext fun a => Fin.ext ?_)
  refine (Pipeline.Window.rect_emb_val ((cfgA ch).win (3 : Fin 5)) t _ a rfl).trans ?_
  match a with
  | ⟨0, _⟩ =>
    refine (congrArg (· * 1 + 0) (index_be ch t)).trans ?_
    show (exp_of ch t).val * 1 + 0 = (exp_of ch t).val
    omega
  | ⟨1, _⟩ =>
    show 0 * 512 + k.val = k.val
    omega
  | ⟨2, _⟩ =>
    show 0 * 1024 + j.val = j.val
    omega

end Cert.ExpertsIdeal.Tab

end
-- ==== Proof.Experts.Ref.lean ====
/-
  The experts' reference read entry by entry: of a used block, the SwiGLU of the expert that the block's word names;
  zero of a block beyond.
-/
module

public import proofs.«01_k».proof.Proof.Gen.ExpertsRefIdeal.Read
public import Idealize.ShloMosaic.Lib.Pointwise
public import Idealize.ShloMosaic.Lib.Pipeline.ValueKit

@[expose] public section

set_option maxRecDepth 16384
set_option maxHeartbeats 4000000

noncomputable section

open Idealize.ShloMosaic Idealize.ShloMosaic.TcCoe Idealize.SL.Sem

namespace Cert.Proof.ExpertsRef

open Cert.ExpertsRefIdeal
open Cert.ExpertsRefIdeal.Read

/-- The rows' array. -/
abbrev Xc := (⟨S81920x1024, .f32⟩ : BufTy).Contents (Elt Ideal)
/-- The table of the blocks' experts. -/
abbrev Bc := (⟨S320, .i32⟩ : BufTy).Contents (Elt Ideal)
/-- The number of used blocks. -/
abbrev Uc := (⟨S1, .i32⟩ : BufTy).Contents (Elt Ideal)
/-- The gate weights' array, and the linear weights'. -/
abbrev Wc := (⟨S64x1024x512, .f32⟩ : BufTy).Contents (Elt Ideal)
/-- The output weights' array. -/
abbrev Oc := (⟨S64x512x1024, .f32⟩ : BufTy).Contents (Elt Ideal)

/-- One hidden unit of an expert: the row's gate product `a` and its linear product `b`. -/
def unit (a b : EReal) : EReal := a * Ideal.div 1 (1 + Ideal.exp (-a)) * b

/-- One result of an expert at a row: gate and linear weights `w1` `w3`, output weights `w2`. -/
def mlp (x : Fin 1024 → EReal) (w1 w3 : Fin 1024 → Fin 512 → EReal) (w2 : Fin 512 → EReal) : EReal :=
  ∑ j, unit (∑ k, x k * w1 k j) (∑ k, x k * w3 k j) * w2 j

/-- A word below 64 read signed is the word. -/
theorem toInt_small (v : BitVec 32) (h : v.toNat < 64) : v.toInt = v.toNat := by
  have := BitVec.toInt_eq_toNat_cond v
  split at this <;> omega

/-- The gather of a block's gate weights, at an entry: the expert at the word, read signed and clamped. -/
theorem gather_w (x : Wc) (idx : IVec S320x1 32) (b : Fin 320) (k : Fin 1024) (j : Fin 512) :
    Host.gather gather_S64x1024x512_S320x1_S320x1024x512_12_0_n_n_0_1_11024512 x idx (ix3 b k j)
      = x (ix3 ⟨min (idx (ix2 b 0)).toInt.toNat 63, by omega⟩ k j) := by
  unfold Host.gather
  congr 1
  funext a
  refine Fin.ext ?_
  show GatherDims.start _ (ix3 b k j) idx a + GatherDims.batchCoord _ (ix3 b k j) a + GatherDims.offCoord _ (ix3 b k j) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (by exact List.mem_singleton.mpr rfl)]
    have hsi : gather_S64x1024x512_S320x1_S320x1024x512_12_0_n_n_0_1_11024512.siIdx (ix3 b k j)
        ⟨List.idxOf (0 : Fin 3) gather_S64x1024x512_S320x1_S320x1024x512_12_0_n_n_0_1_11024512.startIndexMap,
          List.idxOf_lt_length_iff.2 (List.mem_singleton.mpr rfl)⟩ = ix2 b 0 := by
      funext c; refine Fin.ext ?_
      match c with
      | ⟨0, _⟩ => rfl
      | ⟨1, _⟩ => rfl
    refine (congrArg (fun z : S320x1.Idx => min (idx z).toInt.toNat 63 + 0 + 0) hsi).trans ?_
    rfl
  | ⟨1, _⟩ =>
    unfold GatherDims.start GatherDims.offCoord
    rw [dif_neg (by show ¬ (1 : Fin 3) ∈ gather_S64x1024x512_S320x1_S320x1024x512_12_0_n_n_0_1_11024512.startIndexMap; decide), dif_pos (by show (1 : Fin 3) ∈ gather_S64x1024x512_S320x1_S320x1024x512_12_0_n_n_0_1_11024512.sKept; decide)]
    show 0 + 0 + k.val = k.val
    omega
  | ⟨2, _⟩ =>
    unfold GatherDims.start GatherDims.offCoord
    rw [dif_neg (by show ¬ (2 : Fin 3) ∈ gather_S64x1024x512_S320x1_S320x1024x512_12_0_n_n_0_1_11024512.startIndexMap; decide), dif_pos (by show (2 : Fin 3) ∈ gather_S64x1024x512_S320x1_S320x1024x512_12_0_n_n_0_1_11024512.sKept; decide)]
    show 0 + 0 + j.val = j.val
    omega

/-- The gather of a block's output weights, at an entry. -/
theorem gather_o (x : Oc) (idx : IVec S320x1 32) (b : Fin 320) (k : Fin 512) (j : Fin 1024) :
    Host.gather gather_S64x512x1024_S320x1_S320x512x1024_12_0_n_n_0_1_15121024 x idx (ix3 b k j)
      = x (ix3 ⟨min (idx (ix2 b 0)).toInt.toNat 63, by omega⟩ k j) := by
  unfold Host.gather
  congr 1
  funext a
  refine Fin.ext ?_
  show GatherDims.start _ (ix3 b k j) idx a + GatherDims.batchCoord _ (ix3 b k j) a + GatherDims.offCoord _ (ix3 b k j) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (by exact List.mem_singleton.mpr rfl)]
    have hsi : gather_S64x512x1024_S320x1_S320x512x1024_12_0_n_n_0_1_15121024.siIdx (ix3 b k j)
        ⟨List.idxOf (0 : Fin 3) gather_S64x512x1024_S320x1_S320x512x1024_12_0_n_n_0_1_15121024.startIndexMap,
          List.idxOf_lt_length_iff.2 (List.mem_singleton.mpr rfl)⟩ = ix2 b 0 := by
      funext c; refine Fin.ext ?_
      match c with
      | ⟨0, _⟩ => rfl
      | ⟨1, _⟩ => rfl
    refine (congrArg (fun z : S320x1.Idx => min (idx z).toInt.toNat 63 + 0 + 0) hsi).trans ?_
    rfl
  | ⟨1, _⟩ =>
    unfold GatherDims.start GatherDims.offCoord
    rw [dif_neg (by show ¬ (1 : Fin 3) ∈ gather_S64x512x1024_S320x1_S320x512x1024_12_0_n_n_0_1_15121024.startIndexMap; decide), dif_pos (by show (1 : Fin 3) ∈ gather_S64x512x1024_S320x1_S320x512x1024_12_0_n_n_0_1_15121024.sKept; decide)]
    show 0 + 0 + k.val = k.val
    omega
  | ⟨2, _⟩ =>
    unfold GatherDims.start GatherDims.offCoord
    rw [dif_neg (by show ¬ (2 : Fin 3) ∈ gather_S64x512x1024_S320x1_S320x512x1024_12_0_n_n_0_1_15121024.startIndexMap; decide), dif_pos (by show (2 : Fin 3) ∈ gather_S64x512x1024_S320x1_S320x512x1024_12_0_n_n_0_1_15121024.sKept; decide)]
    show 0 + 0 + j.val = j.val
    omega

variable (x : Xc) (be : Bc) (nu : Uc) (w1 w3 : Wc) (w2 : Oc)

/-- A word below 64 is not wrapped, at the first gather. -/
theorem v6_at (hb : ∀ b, (be b).toNat < 64) (b : Fin 320) : val_main_v6 (F := Ideal) be (ix2 b 0) = be (ix1 b) := by
  have e : val_main_v6 (F := Ideal) be (ix2 b 0)
      = Scalar.select (IntOp.cmpi .slt (be (ix1 b)) 0#32) (IntOp.addi (be (ix1 b)) 64#32) (be (ix1 b)) := by
    pointwise [val_main_v6, val_main_v5, val_main_v4, val_main_v3, val_main_v2, val_main_v1, val_main_c, val_main_c_0]
  have h : IntOp.cmpi .slt (be (ix1 b)) 0#32 = 0#1 := by
    have := toInt_small _ (hb (ix1 b))
    show BitVec.ofBool ((be (ix1 b)).slt 0#32) = 0#1
    have hn : (be (ix1 b)).slt 0#32 = false := by simp [BitVec.slt, this]
    rw [hn]; rfl
  rw [e, h]; rfl

/-- The second and the third gather's words are the first's. -/
theorem v13_at (hb : ∀ b, (be b).toNat < 64) (b : Fin 320) : val_main_v13 (F := Ideal) be (ix2 b 0) = be (ix1 b) := v6_at be hb b
theorem v20_at (hb : ∀ b, (be b).toNat < 64) (b : Fin 320) : val_main_v20 (F := Ideal) be (ix2 b 0) = be (ix1 b) := v6_at be hb b

/-- The expert that a block's word names. -/
def ex (hb : ∀ b, (be b).toNat < 64) (b : Fin 320) : Fin 64 := ⟨(be (ix1 b)).toNat, hb _⟩

theorem clamp_ex (hb : ∀ b, (be b).toNat < 64) (b : Fin 320) : min (be (ix1 b)).toInt.toNat 63 = (be (ix1 b)).toNat := by
  have := toInt_small _ (hb (ix1 b)); have := hb (ix1 b)
  omega

/-- A block's gate weights. -/
theorem v7_at (hb : ∀ b, (be b).toNat < 64) (b : Fin 320) (k : Fin 1024) (j : Fin 512) :
    val_main_v7 (F := Ideal) be w1 (ix3 b k j) = w1 (ix3 (ex be hb b) k j) := by
  unfold val_main_v7
  rw [gather_w]
  refine congrArg w1 (congrArg (fun z => ix3 z k j) (Fin.ext ?_))
  show min (val_main_v6 (F := Ideal) be (ix2 b 0)).toInt.toNat 63 = _
  rw [v6_at be hb, clamp_ex be hb]; rfl
/-- A block's linear weights. -/
theorem v14_at (hb : ∀ b, (be b).toNat < 64) (b : Fin 320) (k : Fin 1024) (j : Fin 512) :
    val_main_v14 (F := Ideal) be w3 (ix3 b k j) = w3 (ix3 (ex be hb b) k j) := v7_at be w3 hb b k j
/-- A block's output weights. -/
theorem v21_at (hb : ∀ b, (be b).toNat < 64) (b : Fin 320) (k : Fin 512) (j : Fin 1024) :
    val_main_v21 (F := Ideal) be w2 (ix3 b k j) = w2 (ix3 (ex be hb b) k j) := by
  unfold val_main_v21
  rw [gather_o]
  refine congrArg w2 (congrArg (fun z => ix3 z k j) (Fin.ext ?_))
  show min (val_main_v20 (F := Ideal) be (ix2 b 0)).toInt.toNat 63 = _
  rw [v20_at be hb, clamp_ex be hb]; rfl

/-- A block's row. -/
theorem v0_at (b : Fin 320) (p : Fin 256) (k : Fin 1024) :
    val_main_v0 (F := Ideal) x (ix3 b p k) = x (ix2 ⟨b.val * 256 + p.val, by omega⟩ k) := by
  pointwise [val_main_v0]

/-- The gate product. -/
theorem v22_at (hb : ∀ b, (be b).toNat < 64) (b : Fin 320) (p : Fin 256) (j : Fin 512) :
    val_main_v22 (F := Ideal) x be w1 (ix3 b p j)
      = ∑ k : Fin 1024, x (ix2 ⟨b.val * 256 + p.val, by omega⟩ k) * w1 (ix3 (ex be hb b) k j) := by
  rw [val_main_v22_apply]
  refine Finset.sum_congr rfl fun k _ => ?_
  have el : lidx_main_v22 (ix3 b p j) k = ix3 b p k := by
    funext a
    match a with | ⟨0, _⟩ => rfl | ⟨1, _⟩ => rfl | ⟨2, _⟩ => rfl
  have er : ridx_main_v22 (ix3 b p j) k = ix3 b k j := by
    funext a
    match a with | ⟨0, _⟩ => rfl | ⟨1, _⟩ => rfl | ⟨2, _⟩ => rfl
  rw [el, er, v0_at, v7_at be w1 hb]
/-- The linear product. -/
theorem v24_at (hb : ∀ b, (be b).toNat < 64) (b : Fin 320) (p : Fin 256) (j : Fin 512) :
    val_main_v24 (F := Ideal) x be w3 (ix3 b p j)
      = ∑ k : Fin 1024, x (ix2 ⟨b.val * 256 + p.val, by omega⟩ k) * w3 (ix3 (ex be hb b) k j) := v22_at x be w3 hb b p j

/-- A hidden unit. -/
theorem v25_at (hb : ∀ b, (be b).toNat < 64) (b : Fin 320) (p : Fin 256) (j : Fin 512) :
    val_main_v25 (F := Ideal) x be w1 w3 (ix3 b p j)
      = unit (∑ k : Fin 1024, x (ix2 ⟨b.val * 256 + p.val, by omega⟩ k) * w1 (ix3 (ex be hb b) k j))
          (∑ k : Fin 1024, x (ix2 ⟨b.val * 256 + p.val, by omega⟩ k) * w3 (ix3 (ex be hb b) k j)) := by
  rw [← v22_at x be w1 hb, ← v24_at x be w3 hb]
  pointwise [val_main_v25, val_main_v23, val_main_call0_v5, val_main_call0_v4, val_main_call0_v3, val_main_call0_v2, val_main_call0_v1, val_main_call0_v0, val_main_call0_cst, val_main_call0_cst_0]
  rfl

/-- The reference's result at a block's row. -/
theorem v33_at (hb : ∀ b, (be b).toNat < 64) (b : Fin 320) (p : Fin 256) (q : Fin 1024) :
    val_main_v33 (F := Ideal) x be nu w1 w3 w2 (ix2 ⟨b.val * 256 + p.val, by omega⟩ q)
      = Scalar.select (IntOp.cmpi .slt (BitVec.ofNat 32 b.val) (nu (ix1 0)))
          (mlp (fun k => x (ix2 ⟨b.val * 256 + p.val, by omega⟩ k)) (fun k j => w1 (ix3 (ex be hb b) k j))
            (fun k j => w3 (ix3 (ex be hb b) k j)) (fun j => w2 (ix3 (ex be hb b) j q))) 0 := by
  have e : val_main_v33 (F := Ideal) x be nu w1 w3 w2 (ix2 ⟨b.val * 256 + p.val, by omega⟩ q)
      = Scalar.select (IntOp.cmpi .slt (BitVec.ofNat 32 b.val) (nu (ix1 0)))
          (val_main_v26 (F := Ideal) x be w1 w3 w2 (ix3 b p q)) 0 := by
    pointwise [val_main_v33, val_main_v32, val_main_call1_v2, val_main_call1_v1, val_main_call1_v0, val_main_cst, val_main_v31, val_main_v30, val_main_v29, val_main_v28, val_main_v27]
    congr 1
    show constant (F := Ideal) S_ .f32 0#32 ix0 = 0
    pointwise []
  rw [e]
  congr 1
  rw [val_main_v26_apply]
  unfold mlp
  refine Finset.sum_congr rfl fun j _ => ?_
  have el : lidx_main_v26 (ix3 b p q) j = ix3 b p j := by
    funext a
    match a with | ⟨0, _⟩ => rfl | ⟨1, _⟩ => rfl | ⟨2, _⟩ => rfl
  have er : ridx_main_v26 (ix3 b p q) j = ix3 b j q := by
    funext a
    match a with | ⟨0, _⟩ => rfl | ⟨1, _⟩ => rfl | ⟨2, _⟩ => rfl
  rw [el, er, v25_at x be w1 w3 hb, v21_at be w2 hb]

end Cert.Proof.ExpertsRef

end
-- ==== Proof.Experts.Value.lean ====
/-
  The experts' final array is the reference's.
-/
module

public import proofs.«01_k».proof.Proof.Experts.Words
public import proofs.«01_k».proof.Proof.Experts.Ref

@[expose] public section

set_option maxRecDepth 16384
set_option maxHeartbeats 1000000

noncomputable section

namespace Cert.ExpertsIdeal.Tab

open Cert.ExpertsIdeal Cert.ExpertsIdeal.Gen
open Idealize.ShloMosaic
open Idealize.ShloMosaic.TcCoe Idealize.ShloMosaic.Tactic
open Idealize.SL Idealize.SL.Sem
open Idealize.ShloMosaic.Pipeline (Dat Cfg Window)
open Cert.Proof.ExpertsRef (mlp unit)

variable (ch : Tables) (m : (ℓ : Loc nD τ sig) → Buf (Elt Ideal) ℓ) (ρ : Dev nD → PrngReg) (c : Dev nD)

/-- The stored weights are the loaded ones. -/
theorem pay1_at (v : Vec Ideal S1x1024x512 .f32) (k : Fin 1024) (j : Fin 512) : k0_pay1 v (ix2 k j) = v (ix3 0 k j) := by
  pointwise [k0_pay1]
theorem pay2_at (v : Vec Ideal S1x1024x512 .f32) (k : Fin 1024) (j : Fin 512) : k0_pay2 v (ix2 k j) = v (ix3 0 k j) := by
  pointwise [k0_pay2]
theorem pay3_at (v : Vec Ideal S1x512x1024 .f32) (k : Fin 512) (j : Fin 1024) : k0_pay3 v (ix2 k j) = v (ix3 0 k j) := by
  pointwise [k0_pay3]
/-- The stored block is the expert's result. -/
theorem pay4_at (x : Vec Ideal S256x1024 .f32) (a b : Vec Ideal S1024x512 .bf16) (d : Vec Ideal S512x1024 .bf16) (p : Fin 256) (q : Fin 1024) :
    k0_pay4 x a b d (ix2 p q) = mlp (fun k => x (ix2 p k)) (fun k j => a (ix2 k j)) (fun k j => b (ix2 k j)) (fun j => d (ix2 j q)) := by
  pointwise [k0_pay4]
  simp only [zero_sub]
  rfl
/-- The block beyond the used ones is zero. -/
theorem pay5_at (p : Fin 256) (q : Fin 1024) : k0_pay5 (F := Ideal) (ix2 p q) = 0 := by
  pointwise [k0_pay5]

/-- The weights of the gate, of the linear product and of the output. -/
abbrev G1 : S64x1024x512.Idx → EReal := m ((c : Thread nD τ).loc main_arg3)
abbrev G3 : S64x1024x512.Idx → EReal := m ((c : Thread nD τ).loc main_arg4)
abbrev G2 : S64x512x1024.Idx → EReal := m ((c : Thread nD τ).loc main_arg5)
/-- What the three scratches hold. -/
abbrev sc0 (H : Held c) : S1024x512.Idx → EReal := H.2.1
abbrev sc1 (H : Held c) : S1024x512.Idx → EReal := H.2.2.1
abbrev sc2 (H : Held c) : S512x1024.Idx → EReal := H.2.2.2

/-- The scratches hold the weights of expert `e`. -/
def Loaded (H : Held c) (e : Fin 64) : Prop :=
  (∀ k j, sc0 c H (ix2 k j) = G1 m c (ix3 e k j)) ∧ (∀ k j, sc1 c H (ix2 k j) = G3 m c (ix3 e k j))
    ∧ ∀ k j, sc2 c H (ix2 k j) = G2 m c (ix3 e k j)

/-- A point that loads leaves its expert's weights. -/
theorem loaded_A (t : Fin (cfgA ch).N) (prev : Held c) (q0 : P0_0 ch t) : Loaded m c (step0 ch m ρ c t prev) (exp_of ch t) := by
  refine ⟨fun k j => ?_, fun k j => ?_, fun k j => ?_⟩
  · refine (congrFun (A_s0 ch m ρ c t prev q0) (ix2 k j)).trans ?_
    exact (pay1_at _ k j).trans (read_w1 ch m ρ c t k j)
  · refine (congrFun (A_s1 ch m ρ c t prev q0) (ix2 k j)).trans ?_
    exact (pay2_at _ k j).trans (read_w3 ch m ρ c t k j)
  · refine (congrFun (A_s2 ch m ρ c t prev q0) (ix2 k j)).trans ?_
    exact (pay3_at _ k j).trans (read_w2 ch m ρ c t k j)

/-- A used point that does not load keeps them. -/
theorem loaded_B (t : Fin (cfgA ch).N) (prev : Held c) (e : Fin 64) (q0 : ¬P0_0 ch t) (q1 : P0_1 ch t) (h : Loaded m c prev e) :
    Loaded m c (step0 ch m ρ c t prev) e := by
  refine ⟨fun k j => ?_, fun k j => ?_, fun k j => ?_⟩
  · exact (congrFun (B_s0 ch m ρ c t prev q0 q1) (ix2 k j)).trans (h.1 k j)
  · exact (congrFun (B_s1 ch m ρ c t prev q0 q1) (ix2 k j)).trans (h.2.1 k j)
  · exact (congrFun (B_s2 ch m ρ c t prev q0 q1) (ix2 k j)).trans (h.2.2 k j)

/-- The experts of a point and of the one before agree where nothing is loaded. -/
theorem exp_same (t u : Fin (cfgA ch).N) (h : t.val = u.val + 1) (q0 : ¬P0_0 ch t) (q1 : P0_1 ch t) : exp_of ch t = exp_of ch u :=
  Fin.ext (by
    show (ch.be (ix1 (blk ch t))).toNat = (ch.be (ix1 (blk ch u))).toNat
    rw [same ch t u h q0 q1])

/-- After a used point the scratches hold the weights of its expert. -/
theorem loaded : ∀ (n : ℕ) (h : n < (cfgA ch).N), P0_1 ch ⟨n, h⟩ → Loaded m c (traj0 ch m ρ c n h) (exp_of ch ⟨n, h⟩)
  | 0, h, q1 => by
    have q0 := P_A_zero ch ⟨0, h⟩ rfl q1
    exact loaded_A ch m ρ c ⟨0, h⟩ _ q0
  | n + 1, h, q1 => by
    by_cases q0 : P0_0 ch ⟨n + 1, h⟩
    · exact loaded_A ch m ρ c ⟨n + 1, h⟩ _ q0
    · have ih := loaded n (Nat.lt_of_succ_lt h) (P_1_mono ch ⟨n + 1, h⟩ ⟨n, Nat.lt_of_succ_lt h⟩ (Nat.le_succ n) q1)
      rw [exp_same ch ⟨n + 1, h⟩ ⟨n, Nat.lt_of_succ_lt h⟩ rfl q0 q1]
      exact loaded_B ch m ρ c ⟨n + 1, h⟩ _ _ q0 q1 ih

/-- The rows. -/
abbrev Gx : S81920x1024.Idx → EReal := m ((c : Thread nD τ).loc main_arg0)

/-- A used point's result at a row. -/
def res (t : Fin (cfgA ch).N) (p : Fin 256) (q : Fin 1024) : EReal :=
  mlp (fun k => Gx m c (ix2 ⟨(blk ch t).val * 256 + p.val, by omega⟩ k)) (fun k j => G1 m c (ix3 (exp_of ch t) k j))
    (fun k j => G3 m c (ix3 (exp_of ch t) k j)) (fun j => G2 m c (ix3 (exp_of ch t) j q))

theorem res_of (t : Fin (cfgA ch).N) (q1 : P0_1 ch t) (a b : Vec Ideal S1024x512 .bf16) (d : Vec Ideal S512x1024 .bf16)
    (ha : ∀ k j, a (ix2 k j) = G1 m c (ix3 (exp_of ch t) k j)) (hb : ∀ k j, b (ix2 k j) = G3 m c (ix3 (exp_of ch t) k j))
    (hd : ∀ k j, d (ix2 k j) = G2 m c (ix3 (exp_of ch t) k j)) (p : Fin 256) (q : Fin 1024) :
    k0_pay4 (iblk ch m ρ c (0 : Fin 5) t) a b d (ix2 p q) = res ch m c t p q := by
  refine (pay4_at _ a b d p q).trans ?_
  unfold res
  have hx : (fun k => iblk ch m ρ c (0 : Fin 5) t (ix2 p k)) = fun k => Gx m c (ix2 ⟨(blk ch t).val * 256 + p.val, by omega⟩ k) :=
    funext fun k => read_x ch m ρ c t q1 p k
  have ea : (fun k j => a (ix2 k j)) = fun k j => G1 m c (ix3 (exp_of ch t) k j) := funext fun k => funext fun j => ha k j
  have eb : (fun k j => b (ix2 k j)) = fun k j => G3 m c (ix3 (exp_of ch t) k j) := funext fun k => funext fun j => hb k j
  have ed : (fun j => d (ix2 j q)) = fun j => G2 m c (ix3 (exp_of ch t) j q) := funext fun j => hd j q
  exact (congrArg (fun z => mlp z _ _ _) hx).trans ((congrArg (fun z => mlp _ z _ _) ea).trans
    ((congrArg (fun z => mlp _ _ z _) eb).trans (congrArg (fun z => mlp _ _ _ z) ed)))

/-- What a used point leaves in its block. -/
theorem out_used (t : Fin (cfgA ch).N) (q1 : P0_1 ch t) (p : Fin 256) (q : Fin 1024) :
    (traj0 ch m ρ c t.val t.isLt).1 (ix2 p q) = res ch m c t p q := by
  rw [traj0_eq]
  by_cases q0 : P0_0 ch t
  · rw [A_out ch m ρ c t _ q0]
    exact res_of ch m ρ c t q1 _ _ _ (fun k j => (pay1_at _ k j).trans (read_w1 ch m ρ c t k j))
      (fun k j => (pay2_at _ k j).trans (read_w3 ch m ρ c t k j)) (fun k j => (pay3_at _ k j).trans (read_w2 ch m ρ c t k j)) p q
  · rw [B_out ch m ρ c t _ q0 q1]
    have h0 : t.val ≠ 0 := fun h => q0 (P_A_zero ch t h q1)
    have hu : t.val - 1 < (cfgA ch).N := by omega
    have hp : prev0 ch m ρ c t = traj0 ch m ρ c (t.val - 1) hu := by unfold prev0; rw [dif_neg h0]
    have hs : t.val = (⟨t.val - 1, hu⟩ : Fin (cfgA ch).N).val + 1 := by show t.val = t.val - 1 + 1; omega
    have L := loaded ch m ρ c (t.val - 1) hu (P_1_mono ch t ⟨t.val - 1, hu⟩ (Nat.sub_le _ _) q1)
    rw [← exp_same ch t ⟨t.val - 1, hu⟩ hs q0 q1] at L
    rw [hp]
    exact res_of ch m ρ c t q1 _ _ _ L.1 L.2.1 L.2.2 p q

/-- What a point beyond the used ones leaves. -/
theorem out_unused (t : Fin (cfgA ch).N) (q1 : ¬P0_1 ch t) (p : Fin 256) (q : Fin 1024) :
    (traj0 ch m ρ c t.val t.isLt).1 (ix2 p q) = (0 : EReal) := by
  rw [traj0_eq, C_out ch m ρ c t _ (fun h => q1 (P_A ch t h)) q1]
  exact pay5_at p q

/-- The reference's array, at the call's tables. -/
abbrev target : S81920x1024.Idx → EReal :=
  Cert.ExpertsRefIdeal.Read.val_main_v33 (F := Ideal) (m ((c : Thread nD τ).loc main_arg0)) ch.be ch.nu (m ((c : Thread nD τ).loc main_arg3))
    (m ((c : Thread nD τ).loc main_arg4)) (m ((c : Thread nD τ).loc main_arg5))

/-- A point's block is the reference's. -/
theorem block_eq (t : Fin (cfgA ch).N) (p : Fin 256) (q : Fin 1024) :
    (traj0 ch m ρ c t.val t.isLt).1 (ix2 p q) = target ch m c (ix2 ⟨(blk ch t).val * 256 + p.val, by omega⟩ q) := by
  refine Eq.trans ?_ (Cert.Proof.ExpertsRef.v33_at _ ch.be ch.nu _ _ _ (fun b => ch.small b) (blk ch t) p q).symm
  by_cases q1 : P0_1 ch t
  · rw [out_used ch m ρ c t q1]
    have h : IntOp.cmpi .slt (BitVec.ofNat 32 (blk ch t).val) (ch.nu (ix1 0)) = 1#1 := (used_iff ch t).1 q1
    rw [h]
    rfl
  · rw [out_unused ch m ρ c t q1]
    have h : IntOp.cmpi .slt (BitVec.ofNat 32 (blk ch t).val) (ch.nu (ix1 0)) = 0#1 :=
      (one_bit _).resolve_right fun h => q1 ((used_iff ch t).2 h)
    rw [h]
    rfl

/-- The place of a block's entry in the array. -/
theorem place (t : Fin (cfgA ch).N) (p : Fin 256) (q : Fin 1024) :
    (((cfgA ch).win (4 : Fin 5)).rect t).emb (ix2 p q) = (ix2 ⟨(blk ch t).val * 256 + p.val, by omega⟩ q : S81920x1024.Idx) := by
  funext a
  refine Fin.ext ?_
  refine (Pipeline.Window.rect_emb_val ((cfgA ch).win (4 : Fin 5)) t _ a rfl).trans ?_
  match a with
  | ⟨0, _⟩ =>
    refine (congrArg (· * 256 + p.val) (word_val ch t)).trans ?_
    rfl
  | ⟨1, _⟩ =>
    show 0 * 1024 + q.val = q.val
    omega

/-- The call's array after the run is the reference's. -/
theorem final : (dats ch m ρ 0 c).arrAt (4 : Fin 5) (cfgA ch).N = target ch m c := by
  refine (dats ch m ρ 0 c).arrAt_eq_of_emb (4 : Fin 5) (target ch m c) (fun t hf y => ?_) fun i => ?_
  · have hy : y = (ix2 (y (0 : Fin 2)) (y (1 : Fin 2)) : S256x1024.Idx) := by
      funext a
      match a with | ⟨0, _⟩ => rfl | ⟨1, _⟩ => rfl
    have e := block_eq ch m ρ c t (y (0 : Fin 2)) (y (1 : Fin 2))
    refine Eq.trans (show _ = (traj0 ch m ρ c t.val t.isLt).1 y from rfl) ?_
    refine (congrArg (traj0 ch m ρ c t.val t.isLt).1 hy).trans (e.trans (congrArg (target ch m c) ?_))
    exact (place ch t _ _).symm.trans (congrArg (((cfgA ch).win (4 : Fin 5)).rect t).emb hy.symm)
  · have hi0 : (i (0 : Fin 2)).val < 81920 := (i (0 : Fin 2)).isLt
    have hi1 : (i (1 : Fin 2)).val < 1024 := (i (1 : Fin 2)).isLt
    have hN : (cfgA ch).N = 320 := N_0
    refine ⟨⟨(i (0 : Fin 2)).val / 256, by omega⟩, flush4 ch _, ?_⟩
    refine Finset.mem_map.2 ⟨(ix2 ⟨(i (0 : Fin 2)).val % 256, by omega⟩ ⟨(i (1 : Fin 2)).val, hi1⟩ : S256x1024.Idx), Finset.mem_univ _, ?_⟩
    refine (place ch _ _ _).trans ?_
    funext a
    refine Fin.ext ?_
    match a with
    | ⟨0, _⟩ => show (i (0 : Fin 2)).val / 256 * 256 + (i (0 : Fin 2)).val % 256 = (i (0 : Fin 2)).val; omega
    | ⟨1, _⟩ => rfl

end Cert.ExpertsIdeal.Tab

end
-- ==== Proof.ExpertsBits.Tab.lean ====
/-
  The frame of the experts' call at a VARIABLE table: the two prefetched tables are a parameter, of which only this
  is known, that every word of the first names one of the 64 experts. The body's runs are the generated ones; the
  schedule, the trajectory of the three weight scratches and the launch follow the generated text for one table,
  with each decided fact proved for every table instead.
-/
module

public import proofs.«01_k».proof.Proof.Gen.Experts.Flash.Runs
public import Idealize.ShloMosaic.Lib.Pipeline.Quiescent
public import Idealize.ShloMosaic.Lib.Claim

@[expose] public section

set_option maxRecDepth 16384
set_option Elab.async false

noncomputable section

namespace Cert.Experts.Tab

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The two tables, the first's words below 64. -/
structure Tables where
  be : S320.Idx → BitVec 32
  nu : S1.Idx → BitVec 32
  small : ∀ x, (be x).toNat < 64

variable (ch : Tables)

/-- The first table's words. -/
def pinT_0 (ch : Tables) : S320.Idx → BitVec 32 := ch.be
/-- The second's. -/
def pinT_1 (ch : Tables) : S1.Idx → BitVec 32 := ch.nu

/-- The tables' contents. -/
def pfN : pre0.Contents (Elt Bits) := fun | ⟨0, _⟩ => pinT_0 ch | ⟨1, _⟩ => pinT_1 ch | ⟨_ + 2, h⟩ => absurd h (by simp)

/-- The launch memory holds the tables. -/
def Pinned (m : (ℓ : Loc nD τ sig) → Buf (Elt Bits) ℓ) : Prop :=
  (∀ c : Dev nD, m ((c : Thread nD τ).loc main_arg1) = pinT_0 ch)
  ∧ (∀ c : Dev nD, m ((c : Thread nD τ).loc main_arg2) = pinT_1 ch)

/-- A non-negative word is its own magnitude. -/
theorem toNat_le_of_toInt {x y : BitVec 32} (hx : 0 ≤ x.toInt) (h : x.toInt ≤ y.toInt) : x.toNat ≤ y.toNat := by
  have a := BitVec.toInt_eq_toNat_cond x
  have b := BitVec.toInt_eq_toNat_cond y
  have := x.isLt; have := y.isLt
  split at a <;> split at b <;> omega

/-- The clamp of the row blocks: never above the first operand. -/
theorem clamp_le (a n : BitVec 32) (ha : a.toNat < 320) : (Scalar.minsi a (Scalar.maxsi n 0#32)).toNat ≤ a.toNat := by
  have ha' : a.toInt = a.toNat := by
    have := BitVec.toInt_eq_toNat_cond a
    split at this <;> omega
  have h0 : 0 ≤ (Scalar.maxsi n 0#32).toInt := by
    show 0 ≤ (if BitVec.slt 0#32 n then n else 0#32).toInt
    split
    · rename_i h; simp [BitVec.slt] at h; omega
    · decide
  show (if a.slt (Scalar.maxsi n 0#32) then a else Scalar.maxsi n 0#32).toNat ≤ a.toNat
  split
  · exact le_rfl
  · rename_i h
    simp [BitVec.slt] at h
    exact toNat_le_of_toInt h0 h

theorem at_small (i : grid0.Coords) : (Pipeline.Prefetch.Contents.at (pfN ch) 0 (Rect.unit (s := S320) (k0_off1 i) S1.size (k0_off1_inb i)) numel1_S1 : BitVec 32).toNat < 64 :=
  ch.small _

theorem ok_0 (i : grid0.Coords) : ∀ a, (cc0_transform_0 inb_S1_S1_0 numel1_S1 (pfN ch) i a + 1) * S256x1024.size a ≤ S81920x1024.size a := by
  have r : (i 0).val < 320 := (i 0).isLt
  have hi : (BitVec.ofNat 32 (i 0).val).toNat = (i 0).val := by rw [BitVec.toNat_ofNat]; omega
  unfold cc0_transform_0
  refine okcons ?_ (okcons (by decide) (fun a => a.elim0))
  have := clamp_le (BitVec.ofNat 32 (i 0).val) (Scalar.subi (Pipeline.Prefetch.Contents.at (pfN ch) 1 (Rect.unit (s := S1) ![0] S1.size inb_S1_S1_0) numel1_S1) 1#32) (by omega)
  omega
theorem ok_1 (i : grid0.Coords) : ∀ a, (cc0_transform_1 k0_off1_inb numel1_S1 (pfN ch) i a + 1) * S1x1024x512.size a ≤ S64x1024x512.size a := by
  have := at_small ch i
  unfold cc0_transform_1
  exact okcons (show (_ + 1) * 1 ≤ 64 by rw [Nat.mul_one]; exact this) (okcons (by decide) (okcons (by decide) (fun a => a.elim0)))
theorem ok_2 (i : grid0.Coords) : ∀ a, (cc0_transform_2 k0_off1_inb numel1_S1 (pfN ch) i a + 1) * S1x1024x512.size a ≤ S64x1024x512.size a := ok_1 ch i
theorem ok_3 (i : grid0.Coords) : ∀ a, (cc0_transform_3 k0_off1_inb numel1_S1 (pfN ch) i a + 1) * S1x512x1024.size a ≤ S64x512x1024.size a := by
  have := at_small ch i
  unfold cc0_transform_3
  exact okcons (show (_ + 1) * 1 ≤ 64 by rw [Nat.mul_one]; exact this) (okcons (by decide) (okcons (by decide) (fun a => a.elim0)))

/-- Every block lies inside its array. -/
theorem ok_pfN : ok0 (F := Bits) (pfN ch) :=
  ⟨fun i => ⟨ok_0 ch i, .inl rfl⟩, fun i => ⟨ok_1 ch i, .inl rfl⟩, fun i => ⟨ok_2 ch i, .inl rfl⟩, fun i => ⟨ok_3 ch i, .inl rfl⟩⟩

/-- The admissible contents, the pipeline at them (`cfgA ch`: member `ch`'s grid, 320 points), as @main's one. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S256x1024 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1024x512 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1024x512 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x512x1024 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S256x1024 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.ori (Scalar.cmpi .eq (BitVec.ofNat 32 ((crd ch t) 0).val) 0#32) (Scalar.cmpi .ne (View.readAt (Elt Bits) (tbM0_0).view (Rect.unit (s := S320) (k0_off1 (crd ch t)) S1.size (k0_off1_inb (crd ch t))).toLoadRect (pinT_0 ch) (Shape.Idx.first (numel1_S1.symm ▸ Nat.one_pos))) (View.readAt (Elt Bits) (tbM0_0).view (Rect.unit (s := S320) (k0_off2 (crd ch t)) S1.size (k0_off2_inb (crd ch t))).toLoadRect (pinT_0 ch) (Shape.Idx.first (numel1_S1.symm ▸ Nat.one_pos))))))) 0#32) = 1#1
abbrev P0_1 (t : Fin (cfgA ch).N) : Prop := k0_cond2 (crd ch t) (View.readAt (Elt Bits) (tbM0_1).view (Rect.unit (s := S1) ![0] S1.size inb_S1_S1_0).toLoadRect (pinT_1 ch) (Shape.Idx.first (numel1_S1.symm ▸ Nat.one_pos))) = 1#1

/-- Whether the scratches hold nothing a point has determined, before position `n`: until a point of path A has run. -/
def sfresh0_0 : ℕ → Bool
  | 0 => true
  | n + 1 => if h : n < (cfgA ch).N then (if P0_0 ch ⟨n, h⟩ then false else sfresh0_0 n) else true

/-! ## The decisions -/

theorem one_bit (x : BitVec 1) : x = 0#1 ∨ x = 1#1 := by revert x; decide

theorem decide_A (s e n : BitVec 1) :
    Scalar.cmpi .ne (Scalar.extui (Scalar.andi s (Scalar.ori e n)) : BitVec 32) 0#32 = 1#1 ↔ (s = 1#1 ∧ (e = 1#1 ∨ n = 1#1)) := by
  rcases one_bit s with rfl | rfl <;> rcases one_bit e with rfl | rfl <;> rcases one_bit n with rfl | rfl <;> decide

theorem cond2_iff (i : grid0.Coords) (v : BitVec 32) : k0_cond2 i v = 1#1 ↔ Scalar.cmpi .slt (BitVec.ofNat 32 (i 0).val) v = 1#1 := by
  show Scalar.cmpi .ne (Scalar.extui (Scalar.cmpi .slt (BitVec.ofNat 32 (i 0).val) v) : BitVec 32) 0#32 = 1#1 ↔ _
  generalize Scalar.cmpi .slt (BitVec.ofNat 32 (i 0).val) v = s
  rcases one_bit s with rfl | rfl <;> decide

theorem cond3_iff (i : grid0.Coords) (v : BitVec 32) : k0_cond3 i v = 1#1 ↔ ¬ k0_cond2 i v = 1#1 := by
  rw [cond2_iff]
  show Scalar.cmpi .ne (Scalar.extui (Scalar.xori (Scalar.cmpi .slt (BitVec.ofNat 32 (i 0).val) v) 1#1) : BitVec 32) 0#32 = 1#1 ↔ _
  generalize Scalar.cmpi .slt (BitVec.ofNat 32 (i 0).val) v = s
  rcases one_bit s with rfl | rfl <;> decide

theorem P_A (t : Fin (cfgA ch).N) (q0 : P0_0 ch t) : P0_1 ch t := (cond2_iff _ _).2 ((decide_A _ _ _).1 q0).1

/-- A point's coordinate is its position. -/
theorem crd_val (t : Fin (cfgA ch).N) : ((crd ch t) 0).val = t.val := by
  have h : t.val < 320 := t.isLt.trans_eq N_0
  show t.val / 1 % 320 = t.val
  omega

theorem P_A_zero (t : Fin (cfgA ch).N) (ht : t.val = 0) (q1 : P0_1 ch t) : P0_0 ch t := by
  refine (decide_A _ _ _).2 ⟨(cond2_iff _ _).1 q1, Or.inl ?_⟩
  rw [crd_val, ht]; decide

theorem slt_mono (a b : ℕ) (v : BitVec 32) (h : a ≤ b) (hb : b < 320) (hs : Scalar.cmpi .slt (BitVec.ofNat 32 b) v = 1#1) :
    Scalar.cmpi .slt (BitVec.ofNat 32 a) v = 1#1 := by
  have e : ∀ n : ℕ, n < 320 → (BitVec.ofNat 32 n).toInt = n := fun n hn => by
    have := BitVec.toInt_eq_toNat_cond (BitVec.ofNat 32 n)
    rw [BitVec.toNat_ofNat] at this
    split at this <;> omega
  have f : ∀ n : ℕ, n < 320 → (Scalar.cmpi .slt (BitVec.ofNat 32 n) v = 1#1 ↔ (n : ℤ) < v.toInt) := fun n hn => by
    show BitVec.ofBool ((BitVec.ofNat 32 n).slt v) = 1#1 ↔ _
    unfold BitVec.slt
    rw [e n hn]
    by_cases hh : (n : ℤ) < v.toInt <;> simp [hh]
  rw [f a (by omega)]
  rw [f b hb] at hs
  omega

/-- A used point has only used points before it. -/
theorem P_1_mono (t u : Fin (cfgA ch).N) (h : u.val ≤ t.val) (q1 : P0_1 ch t) : P0_1 ch u := by
  have q := (cond2_iff _ _).1 q1
  refine (cond2_iff _ _).2 ?_
  rw [crd_val] at q ⊢
  exact slt_mono _ _ _ h (t.isLt.trans_eq N_0) q

theorem sfresh_succ (t : Fin (cfgA ch).N) : sfresh0_0 ch (t.val + 1) = if P0_0 ch t then false else sfresh0_0 ch t.val := by
  obtain ⟨n, h⟩ := t
  simp only [sfresh0_0, dif_pos h]

/-- After a used point the scratches are determined. -/
theorem sfresh_used (t : Fin (cfgA ch).N) (q1 : P0_1 ch t) : sfresh0_0 ch (t.val + 1) = false := by
  obtain ⟨n, h⟩ := t
  induction n with
  | zero => rw [sfresh_succ, if_pos (P_A_zero ch _ rfl q1)]
  | succ n ih =>
    rw [sfresh_succ]
    split
    · rfl
    · exact ih (Nat.lt_of_succ_lt h) (P_1_mono ch _ ⟨n, Nat.lt_of_succ_lt h⟩ (Nat.le_succ n) q1)

theorem sfresh_B (t : Fin (cfgA ch).N) (q0 : ¬P0_0 ch t) (q1 : P0_1 ch t) : sfresh0_0 ch t.val = false := by
  have := sfresh_used ch t q1
  rwa [sfresh_succ, if_neg q0] at this

theorem sfresh_C (t : Fin (cfgA ch).N) (q0 : ¬P0_0 ch t) : sfresh0_0 ch (t.val + 1) = sfresh0_0 ch t.val := by
  rw [sfresh_succ, if_neg q0]

/-- The output is stored at every point. -/
theorem live (t : Fin (cfgA ch).N) : (cfgA ch).idle (4 : Fin 5) ((cfgA ch).grid.coords t) = false := by
  have : ∀ (i : grid0.Coords) (v : BitVec 32), (!(k0_cond2 i v == 1#1) && !(k0_cond3 i v == 1#1)) = false := fun i v => by
    by_cases h : k0_cond2 i v = 1#1
    · simp [h]
    · simp [(cond3_iff i v).2 h]
  exact this _ _

/-- Every block is written back when its point ends. -/
theorem flush4 (t : Fin (cfgA ch).N) : ((cfgA ch).win (4 : Fin 5)).flush t = true := by
  rw [Pipeline.Window.flush_eq_flushF]
  unfold Pipeline.Window.flushF
  rw [show ((cfgA ch).win (4 : Fin 5)).isOut = true from rfl, Bool.true_and, Bool.or_eq_true]
  by_cases h : t.val + 1 = (cfgA ch).grid.N
  · exact Or.inl (decide_eq_true h)
  · refine Or.inr (decide_eq_true ⟨lt_of_le_of_ne (Nat.succ_le_of_lt t.isLt) h, (0 : Fin 2), ?_⟩)
    have e : ∀ u : Fin (cfgA ch).N, ((cfgA ch).win (4 : Fin 5)).index u (0 : Fin 2) = u.val := fun u => by
      show (BitVec.ofNat 32 ((crd ch u) 0).val).toNat = u.val
      have : u.val < 320 := u.isLt.trans_eq N_0
      rw [crd_val, BitVec.toNat_ofNat]; omega
    rw [e, e]
    show t.val + 1 ≠ t.val
    omega

theorem fresh4 (t : Fin (cfgA ch).N) : (cfgA ch).fresh (4 : Fin 5) t.val = true := by
  obtain ⟨n, h⟩ := t
  cases n with
  | zero => rfl
  | succ n => rw [Pipeline.Cfg.fresh_succ _ _ _ (Nat.lt_of_succ_lt h), flush4]; rfl

theorem hypsR0_A (ch : Tables) (t : Fin (cfgA ch).N) (q0 : P0_0 ch t) :
    ((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.ori (Scalar.cmpi .eq (BitVec.ofNat 32 ((crd ch t) 0).val) 0#32) (Scalar.cmpi .ne (View.readAt (Elt Bits) (tbM0_0).view (Rect.unit (s := S320) (k0_off1 (crd ch t)) S1.size (k0_off1_inb (crd ch t))).toLoadRect (pinT_0 ch) (Shape.Idx.first (numel1_S1.symm ▸ Nat.one_pos))) (View.readAt (Elt Bits) (tbM0_0).view (Rect.unit (s := S320) (k0_off2 (crd ch t)) S1.size (k0_off2_inb (crd ch t))).toLoadRect (pinT_0 ch) (Shape.Idx.first (numel1_S1.symm ▸ Nat.one_pos))))))) 0#32) = 1#1) ∧ (k0_cond2 (crd ch t) (View.readAt (Elt Bits) (tbM0_1).view (Rect.unit (s := S1) ![0] S1.size inb_S1_S1_0).toLoadRect (pinT_1 ch) (Shape.Idx.first (numel1_S1.symm ▸ Nat.one_pos))) = 1#1) ∧ (¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ True :=
  ⟨q0, P_A ch t q0, fun h => (cond3_iff _ _).1 h (P_A ch t q0), trivial⟩
theorem hypsR0_B (ch : Tables) (t : Fin (cfgA ch).N) (q0 : ¬P0_0 ch t) (q1 : P0_1 ch t) :
    (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.ori (Scalar.cmpi .eq (BitVec.ofNat 32 ((crd ch t) 0).val) 0#32) (Scalar.cmpi .ne (View.readAt (Elt Bits) (tbM0_0).view (Rect.unit (s := S320) (k0_off1 (crd ch t)) S1.size (k0_off1_inb (crd ch t))).toLoadRect (pinT_0 ch) (Shape.Idx.first (numel1_S1.symm ▸ Nat.one_pos))) (View.readAt (Elt Bits) (tbM0_0).view (Rect.unit (s := S320) (k0_off2 (crd ch t)) S1.size (k0_off2_inb (crd ch t))).toLoadRect (pinT_0 ch) (Shape.Idx.first (numel1_S1.symm ▸ Nat.one_pos))))))) 0#32) = 1#1)) ∧ (k0_cond2 (crd ch t) (View.readAt (Elt Bits) (tbM0_1).view (Rect.unit (s := S1) ![0] S1.size inb_S1_S1_0).toLoadRect (pinT_1 ch) (Shape.Idx.first (numel1_S1.symm ▸ Nat.one_pos))) = 1#1) ∧ (¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ True :=
  ⟨q0, q1, fun h => (cond3_iff _ _).1 h q1, trivial⟩
theorem hypsR0_C (ch : Tables) (t : Fin (cfgA ch).N) (q0 : ¬P0_0 ch t) (q1 : ¬P0_1 ch t) :
    (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.ori (Scalar.cmpi .eq (BitVec.ofNat 32 ((crd ch t) 0).val) 0#32) (Scalar.cmpi .ne (View.readAt (Elt Bits) (tbM0_0).view (Rect.unit (s := S320) (k0_off1 (crd ch t)) S1.size (k0_off1_inb (crd ch t))).toLoadRect (pinT_0 ch) (Shape.Idx.first (numel1_S1.symm ▸ Nat.one_pos))) (View.readAt (Elt Bits) (tbM0_0).view (Rect.unit (s := S320) (k0_off2 (crd ch t)) S1.size (k0_off2_inb (crd ch t))).toLoadRect (pinT_0 ch) (Shape.Idx.first (numel1_S1.symm ▸ Nat.one_pos))))))) 0#32) = 1#1)) ∧ (¬(k0_cond2 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (k0_cond3 (crd ch t) (View.readAt (Elt Bits) (tbM0_1).view (Rect.unit (s := S1) ![0] S1.size inb_S1_S1_0).toLoadRect (pinT_1 ch) (Shape.Idx.first (numel1_S1.symm ▸ Nat.one_pos))) = 1#1) ∧ True :=
  ⟨q0, q1, (cond3_iff _ _).2 q1, trivial⟩

theorem sched0_A (ch : Tables) (t : Fin (cfgA ch).N) (q0 : P0_0 ch t) :
    (cfgA ch).idle (4 : Fin 5) ((cfgA ch).grid.coords t) = false ∧ ((cfgA ch).win (4 : Fin 5)).flush t = true ∧ (cfgA ch).fresh (4 : Fin 5) t.val = true ∧ sfresh0_0 ch (t.val + 1) = false :=
  ⟨live ch t, flush4 ch t, fresh4 ch t, by rw [sfresh_succ, if_pos q0]⟩
theorem sched0_B (ch : Tables) (t : Fin (cfgA ch).N) (q0 : ¬P0_0 ch t) (q1 : P0_1 ch t) :
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false :=
  ⟨live ch t, flush4 ch t, fresh4 ch t, sfresh_B ch t q0 q1, sfresh_used ch t q1⟩
theorem sched0_C (ch : Tables) (t : Fin (cfgA ch).N) (q0 : ¬P0_0 ch t) (q1 : ¬P0_1 ch t) :
    (cfgA ch).idle (4 : Fin 5) ((cfgA ch).grid.coords t) = false ∧ ((cfgA ch).win (4 : Fin 5)).flush t = true ∧ (cfgA ch).fresh (4 : Fin 5) t.val = true :=
  ⟨live ch t, flush4 ch t, fresh4 ch t⟩

/-- The proof's resource algebra. -/
abbrev EP : Emb (UR sig nD τ) 𝕄 := emb₁

/-! ## What the outputs and scratches hold after each point -/

/-- ONE STEP of the trajectory: what the outputs' current buffers and the scratches hold after the body at point `t`
    (output 4, scratch 0, scratch 1, scratch 2), from what they held before (`prev`): the path the decisions select at `t`, its
    run's contents; an output the path leaves idle keeps what it held (junk — `default`, named by nothing — where fresh). -/
def step0 (c : Dev nD) (t : Fin (cfgA ch).N) (prev : (S256x1024.Idx → Elt Bits .f32) × Buf (Elt Bits) ((c : Thread nD τ).loc cc0_scratch0) × Buf (Elt Bits) ((c : Thread nD τ).loc cc0_scratch1) × Buf (Elt Bits) ((c : Thread nD τ).loc cc0_scratch2)) : (S256x1024.Idx → Elt Bits .f32) × Buf (Elt Bits) ((c : Thread nD τ).loc cc0_scratch0) × Buf (Elt Bits) ((c : Thread nD τ).loc cc0_scratch1) × Buf (Elt Bits) ((c : Thread nD τ).loc cc0_scratch2) :=
  if q0 : P0_0 ch t then
    (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.2.2.1)
  else
    if q1 : P0_1 ch t then
      (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.2.1)
    else
      (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.2.2.1)

/-- THE TRAJECTORY: after position `n`. -/
def traj0 (c : Dev nD) : (n : ℕ) → n < (cfgA ch).N → (S256x1024.Idx → Elt Bits .f32) × Buf (Elt Bits) ((c : Thread nD τ).loc cc0_scratch0) × Buf (Elt Bits) ((c : Thread nD τ).loc cc0_scratch1) × Buf (Elt Bits) ((c : Thread nD τ).loc cc0_scratch2)
  | 0, h => step0 ch m ρ c ⟨0, h⟩ (default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S256x1024.Idx → Elt Bits .f32) × Buf (Elt Bits) ((c : Thread nD τ).loc cc0_scratch0) × Buf (Elt Bits) ((c : Thread nD τ).loc cc0_scratch1) × Buf (Elt Bits) ((c : Thread nD τ).loc cc0_scratch2) :=
  if h : t.val = 0 then (default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S256x1024.Idx → Elt Bits .f32) × Buf (Elt Bits) ((c : Thread nD τ).loc cc0_scratch0) × Buf (Elt Bits) ((c : Thread nD τ).loc cc0_scratch1) × Buf (Elt Bits) ((c : Thread nD τ).loc cc0_scratch2)) (q0 : P0_0 ch t) :
    step0 ch m ρ c t prev = (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1).2.2.2.1) := by
  unfold step0; simp only [dif_pos q0]

/-- `step0` at a point of path B. -/
theorem step0_B (c : Dev nD) (t : Fin (cfgA ch).N) (prev : (S256x1024.Idx → Elt Bits .f32) × Buf (Elt Bits) ((c : Thread nD τ).loc cc0_scratch0) × Buf (Elt Bits) ((c : Thread nD τ).loc cc0_scratch1) × Buf (Elt Bits) ((c : Thread nD τ).loc cc0_scratch2)) (q0 : ¬P0_0 ch t) (q1 : P0_1 ch t) :
    step0 ch m ρ c t prev = (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.2.1) := by
  unfold step0; simp only [dif_neg q0, dif_pos q1]

/-- `step0` at a point of path C. -/
theorem step0_C (c : Dev nD) (t : Fin (cfgA ch).N) (prev : (S256x1024.Idx → Elt Bits .f32) × Buf (Elt Bits) ((c : Thread nD τ).loc cc0_scratch0) × Buf (Elt Bits) ((c : Thread nD τ).loc cc0_scratch1) × Buf (Elt Bits) ((c : Thread nD τ).loc cc0_scratch2)) (q0 : ¬P0_0 ch t) (q1 : ¬P0_1 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0 q1).1 (hypsR0_C ch t q0 q1).2.1 (hypsR0_C ch t q0 q1).2.2.1).2.2.2.1) := by
  unfold step0; simp only [dif_neg q0, dif_neg q1]

/-! ## The pipeline's proof data -/

/-- What the tracked buffers held before position `t` of `Fin (N+1)` (the invariant's index). -/
def prev0T (c : Dev nD) (t : Fin ((cfgA ch).N + 1)) : (S256x1024.Idx → Elt Bits .f32) × Buf (Elt Bits) ((c : Thread nD τ).loc cc0_scratch0) × Buf (Elt Bits) ((c : Thread nD τ).loc cc0_scratch1) × Buf (Elt Bits) ((c : Thread nD τ).loc cc0_scratch2) :=
  if h : t.val = 0 then (default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_0 ch t.val = false → a = (prev0T ch m ρ c t).2.2.1⌝ ∗ (scM0_1.view.loc (c : Thread nD τ) ↦{fullShare} a)) ∗ (∃ a, ⌜sfresh0_0 ch t.val = false → a = (prev0T ch m ρ c t).2.2.2⌝ ∗ (scM0_2.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · obtain ⟨i4, -, -, -⟩ := sched0_A ch t q0
    rw [i4] at hi; exact absurd hi (by decide)
  · by_cases q1 : P0_1 ch t
    · obtain ⟨i4, -, -, -, -⟩ := sched0_B ch t q0 q1
      rw [i4] at hi; exact absurd hi (by decide)
    · obtain ⟨i4, -, -⟩ := sched0_C ch t q0 q1
      rw [i4] at hi; exact absurd hi (by decide)

/-- Output window 4 holds, when the body runs at `t`: junk if nothing was stored since its last write-back (`Cfg.fresh`),
    else what the point before left (TableIdle.lean `Dat.before_out_traj`). -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_experts (crd ch t) (Memref.whole main_arg1) (Memref.isWhole_whole _) (Memref.whole main_arg2) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _) (Memref.whole cc0_scratch2) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i4, f4, fr4, sfn0⟩ := sched0_A ch t q0
    have F0 := hypsR0_A ch t q0
    have hc0 := F0.1; have F1 := F0.2
    have k0_h2 := F1.1; have F2 := F1.2
    have k0_h3 := F2.1; have F3 := F2.2
    clear F0 F1 F2 F3
    rewrite [i4]
    simp only [before0_0, before0_1, before0_2, before0_3, before0_4, after0_0, after0_1, after0_2, after0_3, after0_4, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) hc0 k0_h2 k0_h3).2.2.2.2 a0 a1 a2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn0]; decide) | decide)
      isplitl [HS2]
      · iexists _; isplitr; swap
        · iexact HS2
        · ipureintro; intro hn; first | rfl | exact absurd hn (by first | (rw [sfn0]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _ _)
  · by_cases q1 : P0_1 ch t
    · obtain ⟨i4, f4, fr4, sf0, sfn0⟩ := sched0_B ch t q0 q1
      have F0 := hypsR0_B ch t q0 q1
      have hc0 := F0.1; have F1 := F0.2
      have k0_h2 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0]
      iintro ⟨⟨HS0, HS1, HS2, HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ _ hc0 k0_h2 k0_h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn0]; decide) | decide)
        isplitl [HS2]
        · iexists _; isplitr; swap
          · iexact HS2
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _ _ _ _)
    · obtain ⟨i4, f4, fr4⟩ := sched0_C ch t q0 q1
      have F0 := hypsR0_C ch t q0 q1
      have hc0 := F0.1; have F1 := F0.2
      have k0_h2 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) a0 a1 a2 hc0 k0_h2 k0_h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; exact ha0 ((sfresh_C ch t q0).symm.trans hn)
        isplitl [HS1]
        · iexists _; isplitr; swap
          · iexact HS1
          · ipureintro; intro hn; exact ha1 ((sfresh_C ch t q0).symm.trans hn)
        isplitl [HS2]
        · iexists _; isplitr; swap
          · iexact HS2
          · ipureintro; intro hn; exact ha2 ((sfresh_C ch t q0).symm.trans hn)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _ _ _ _ _)

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_0 ch 0 = true from rfl)) Bool.false_ne_true
  isplitl [HS2]
  · iexists a2; isplitr; swap
    · iexact HS2
    · ipureintro; intro h; exact absurd (h.symm.trans (show sfresh0_0 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 (0 : Fin 5)).trans ((dats ch m ρ 0 c).arrAt_in (0 : Fin 5) rfl _), ((h c).2 0).trans (hp.1 c).symm, ((h c).2 1).trans (hp.2 c).symm, ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- THE FRAME under the pinning: from a launch memory whose tables and steering words are member `ch`'s, every weakly fair
    execution terminates, nothing faults, every argument array ends unchanged and every semaphore counter of the machine reads
    zero at every final state — `Cert.quiescent_Experts`'s post. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.Experts.Tab

end
-- ==== Proof.Experts.Claim.lean ====
/-
  The claims about the experts' call, from the two runs and from what the result array holds.
-/
module

public import proofs.«01_k».proof.Proof.Experts.Value
public import proofs.«01_k».proof.Proof.ExpertsBits.Tab
public import proofs.«01_k».proof.Proof.Gen.ExpertsRefIdeal.Run
public import proofs.«01_k».proof.Proof.Gen.ExpertsRefIdeal.Read
public import proofs.«01_k».proof.Defs
public import Idealize.ShloMosaic.Lib.Quiescent

@[expose] public section

set_option maxRecDepth 16384

noncomputable section

open Idealize.ShloMosaic Idealize.ShloMosaic.TcCoe Idealize.SL.Sem

namespace Cert.Proof.ExpertsClaims

/-- The side condition of the precondition's operations. -/
instance pre_facts : Cert.Pre_names_experts.Facts := ⟨by decide⟩

/-- A word the precondition takes lies below 64. -/
theorem small_of (w : BitVec 32) (h : IntOp.andi (IntOp.cmpi .sge w 0#32) (IntOp.cmpi .slt w 64#32) = 1#1) : w.toNat < 64 := by
  have z : (0#32 : BitVec 32).toInt = 0 := by decide
  have f : (64#32 : BitVec 32).toInt = 64 := by decide
  by_cases a : (0 : Int) ≤ w.toInt
  · by_cases b : w.toInt < 64
    · have l := w.isLt
      have t := BitVec.toInt_eq_toNat_cond w
      split at t <;> omega
    · exfalso
      have e : IntOp.cmpi .slt w 64#32 = 0#1 := by
        simp [IntOp.cmpi, BitVec.slt, f, b]
      rw [e] at h
      revert h
      generalize IntOp.cmpi .sge w 0#32 = v
      revert v
      decide
  · exfalso
    have e : IntOp.cmpi .sge w 0#32 = 0#1 := by
      simp [IntOp.cmpi, BitVec.sle, z, a]
    rw [e] at h
    revert h
    generalize IntOp.cmpi .slt w 64#32 = v
    revert v
    decide

/-- There is one device. -/
theorem one (c : Dev Cert.ExpertsIdeal.nD) : c = (0 : Fin 1) := Subsingleton.elim (α := Fin 1) _ _

/-- The tables of the printed kernel's memory. -/
def tabB (m : (ℓ : Loc Cert.Experts.nD Cert.Experts.τ Cert.Experts.sig) → Buf (Elt Bits) ℓ) (h : Cert.Pre_Experts m) : Cert.Experts.Tab.Tables where
  be := m (((0 : Fin 1) : Thread Cert.Experts.nD Cert.Experts.τ).loc Cert.Experts.main_arg1)
  nu := m (((0 : Fin 1) : Thread Cert.Experts.nD Cert.Experts.τ).loc Cert.Experts.main_arg2)
  small := fun x => small_of _ (congrFun (h (0 : Fin 1)) x)

/-- The memory holds them. -/
theorem pinB (m : (ℓ : Loc Cert.Experts.nD Cert.Experts.τ Cert.Experts.sig) → Buf (Elt Bits) ℓ) (h : Cert.Pre_Experts m) :
    Cert.Experts.Tab.Pinned (tabB m h) m :=
  ⟨fun c => by have e : c = (0 : Fin 1) := one c
               subst e; rfl, fun c => by have e : c = (0 : Fin 1) := one c
                                         subst e; rfl⟩

/-- The tables of the idealized kernel's memory. -/
def tabI (m : (ℓ : Loc Cert.ExpertsIdeal.nD Cert.ExpertsIdeal.τ Cert.ExpertsIdeal.sig) → Buf (Elt Ideal) ℓ) (h : Cert.Pre_ExpertsIdeal m) : Cert.ExpertsIdeal.Tab.Tables where
  be := m (((0 : Fin 1) : Thread Cert.ExpertsIdeal.nD Cert.ExpertsIdeal.τ).loc Cert.ExpertsIdeal.main_arg1)
  nu := m (((0 : Fin 1) : Thread Cert.ExpertsIdeal.nD Cert.ExpertsIdeal.τ).loc Cert.ExpertsIdeal.main_arg2)
  small := fun x => small_of _ (congrFun (h (0 : Fin 1)) x)

/-- The memory holds them. -/
theorem pinI (m : (ℓ : Loc Cert.ExpertsIdeal.nD Cert.ExpertsIdeal.τ Cert.ExpertsIdeal.sig) → Buf (Elt Ideal) ℓ) (h : Cert.Pre_ExpertsIdeal m) :
    Cert.ExpertsIdeal.Tab.Pinned (tabI m h) m :=
  ⟨fun c => by have e : c = (0 : Fin 1) := one c
               subst e; rfl, fun c => by have e : c = (0 : Fin 1) := one c
                                         subst e; rfl⟩

/-- The printed kernel's frame. -/
theorem frame_p : Cert.quiescent_Experts := fun m ρ h => Cert.Experts.Tab.frame (tabB m h) m ρ (pinB m h)
/-- The idealized kernel's frame. -/
theorem frame_pi : Cert.quiescent_ExpertsIdeal := fun m ρ h => Cert.ExpertsIdeal.Tab.frame (tabI m h) m ρ (pinI m h)
/-- The reference's frame: its run read at the arguments; it declares no semaphore. -/
theorem frame_ri : Cert.quiescent_ExpertsRefIdeal := fun m ρ _ =>
  (θ_run Cert.ExpertsRefIdeal.defs _ _).mono (fun r h => ⟨fun c => (h c).2,
      Idealize.ShloMosaic.sem_eq_zero_of_no_sems (by decide) r.2⟩)
    (Cert.ExpertsRefIdeal.Value.run (F := Ideal) m ρ)
/-- The reference's frame, of a table that names experts. -/
theorem frame_ri_pre : Cert.quiescent_ExpertsRefIdeal_pre_names_experts := fun m ρ _ => frame_ri m ρ trivial

/-- The ideal pass rewrites nothing. -/
theorem preserves : Cert.preserves_Experts_ExpertsIdeal := trivial

/-- The result is the reference's, of arguments that agree and a table that names experts. -/
theorem algebraic : Cert.algebraic_ExpertsIdeal_ExpertsRefIdeal := by
  intro m ρ m' ρ' hpre hagree
  refine ⟨fun c => Cert.ExpertsIdeal.Tab.target (tabI m hpre) m c,
    (θ_run Cert.ExpertsIdeal.defs _ _).mono (fun r h c => ⟨?_, h.2 c⟩)
      (θ_run_and (Cert.ExpertsIdeal.Tab.run_main (tabI m hpre) m ρ (pinI m hpre)) (Cert.ExpertsIdeal.Tab.unchanged (tabI m hpre) m ρ (pinI m hpre))),
    (θ_run Cert.ExpertsRefIdeal.defs _ _).mono (fun r h c => ?_) (Cert.ExpertsRefIdeal.Value.run (F := Ideal) m' ρ')⟩
  · exact ((h.1 c).1 (4 : Fin 5)).trans (Cert.ExpertsIdeal.Tab.final (tabI m hpre) m ρ c)
  · obtain ⟨h0, h1, h2, h3, h4, h5⟩ := hagree c
    obtain ⟨g0, ga⟩ := h c
    refine ⟨g0.trans ?_, ga⟩
    rw [Cert.ExpertsRefIdeal.Read.val_main_v33_eq, h0, h1, h2, h3, h4, h5]
    have e : c = (0 : Fin 1) := one c
    subst e
    rfl

end Cert.Proof.ExpertsClaims

end
-- ==== Proof.InProj.Value.lean ====
/-
  What the six result arrays of the combined input projection hold: each is the reference's stage of the same
  arguments. A grid point computes a block of 512 tokens; its payloads are read at an index and met with the
  reference's term at the place that the block has in the array.
-/
module

public import proofs.«01_k».proof.Defs
public import proofs.«01_k».proof.Proof.Gen.InProjIdeal.Value
public import proofs.«01_k».proof.Proof.Gen.InProjRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.InProjValue

open Cert.InProjIdeal Cert.InProjIdeal.Gen
open Cert.InProjRefIdeal.Read

variable (m : (ℓ : Loc nD τ sig) → Buf (Elt Ideal) ℓ)

/-- Every window's block index at a point, decided over the 64 points. -/
theorem idx : ∀ t : Fin grid0.N,
    win0_0.index t = ![t.val / 16, t.val % 16, 0] ∧ win0_1.index t = ![t.val / 16, 0, 0] ∧ win0_2.index t = ![0, 0]
    ∧ win0_3.index t = ![t.val / 16, t.val % 16, 0] ∧ win0_4.index t = ![t.val / 16, t.val % 16, 0]
    ∧ win0_5.index t = ![t.val / 16, t.val % 16, 0] ∧ win0_6.index t = ![t.val / 16, t.val % 16, 0]
    ∧ win0_7.index t = ![t.val / 16, t.val % 16, 0] ∧ win0_8.index t = ![t.val / 16, t.val % 16, 0] := by
  decide +kernel

/-- The host casts the weights before the call; at the ideal instance the cast is the identity. -/
abbrev X0 (c : Dev nD) := m ((c : Thread nD τ).loc main_arg0)
/-- The modulation argument. -/
abbrev X1 (c : Dev nD) := m ((c : Thread nD τ).loc main_arg1)
/-- The weight argument. -/
abbrev X2 (c : Dev nD) := m ((c : Thread nD τ).loc main_arg2)

/-- The scaled query part of the projection is the reference's. -/
theorem final3 (c : Dev nD) : (dats m 0 c).arrAt 3 cfg0.N = val_main_v17 (F := Ideal) (X0 m c) (X1 m c) (X2 m c) := by
  refine (dats m 0 c).arrAt_eq_of_covers 3 _ (by decide +kernel) fun t hf y => ?_
  blk_simp
  rw [after0_3]
  frame_out
  unfold_payloads
  idx_vars y
  pointwise [val_main_v17, val_main_v16, val_main_v15, val_main_cst_0, val_main_v9, val_main_v8, val_main_v7, val_main_v6, val_main_v5, val_main_v4, val_main_v3, val_main_v2, val_main_cst, val_main_v1, val_main_v0]

  blk_point [iblk, V, idx t]

/-- The key part of the projection is the reference's. -/
theorem final4 (c : Dev nD) : (dats m 0 c).arrAt 4 cfg0.N = val_main_v18 (F := Ideal) (X0 m c) (X1 m c) (X2 m c) := by
  refine (dats m 0 c).arrAt_eq_of_covers 4 _ (by decide +kernel) fun t hf y => ?_
  blk_simp
  rw [after0_4]
  frame_out
  unfold_payloads
  idx_vars y
  pointwise [val_main_v18, val_main_v10, val_main_v8, val_main_v7, val_main_v6, val_main_v5, val_main_v4, val_main_v3, val_main_v2, val_main_cst, val_main_v1, val_main_v0]

  blk_point [iblk, V, idx t]

/-- The value part of the projection is the reference's. -/
theorem final5 (c : Dev nD) : (dats m 0 c).arrAt 5 cfg0.N = val_main_v19 (F := Ideal) (X0 m c) (X1 m c) (X2 m c) := by
  refine (dats m 0 c).arrAt_eq_of_covers 5 _ (by decide +kernel) fun t hf y => ?_
  blk_simp
  rw [after0_5]
  frame_out
  unfold_payloads
  idx_vars y
  pointwise [val_main_v19, val_main_v11, val_main_v8, val_main_v7, val_main_v6, val_main_v5, val_main_v4, val_main_v3, val_main_v2, val_main_cst, val_main_v1, val_main_v0]

  blk_point [iblk, V, idx t]

/-- The part that feeds the long convolution of the projection is the reference's. -/
theorem final6 (c : Dev nD) : (dats m 0 c).arrAt 6 cfg0.N = val_main_v12 (F := Ideal) (X0 m c) (X1 m c) (X2 m c) := by
  refine (dats m 0 c).arrAt_eq_of_covers 6 _ (by decide +kernel) fun t hf y => ?_
  blk_simp
  rw [after0_6]
  frame_out
  unfold_payloads
  idx_vars y
  pointwise [val_main_v12, val_main_v8, val_main_v7, val_main_v6, val_main_v5, val_main_v4, val_main_v3, val_main_v2, val_main_cst, val_main_v1, val_main_v0]

  blk_point [iblk, V, idx t]

/-- The gate of the attention branch of the projection is the reference's. -/
theorem final7 (c : Dev nD) : (dats m 0 c).arrAt 7 cfg0.N = val_main_v26 (F := Ideal) (X0 m c) (X1 m c) (X2 m c) := by
  refine (dats m 0 c).arrAt_eq_of_covers 7 _ (by decide +kernel) fun t hf y => ?_
  blk_simp
  rw [after0_7]
  frame_out
  unfold_payloads
  idx_vars y
  pointwise [val_main_v26, val_main_v25, val_main_v24, val_main_cst_2, val_main_v23, val_main_v22, val_main_cst_1, val_main_v21, val_main_v20, val_main_v13, val_main_v8, val_main_v7, val_main_v6, val_main_v5, val_main_v4, val_main_v3, val_main_v2, val_main_cst, val_main_v1, val_main_v0]
  simp only [zero_sub]
  blk_point [iblk, V, idx t]

/-- The gate of the convolution branch of the projection is the reference's. -/
theorem final8 (c : Dev nD) : (dats m 0 c).arrAt 8 cfg0.N = val_main_v33 (F := Ideal) (X0 m c) (X1 m c) (X2 m c) := by
  refine (dats m 0 c).arrAt_eq_of_covers 8 _ (by decide +kernel) fun t hf y => ?_
  blk_simp
  rw [after0_8]
  frame_out
  unfold_payloads
  idx_vars y
  pointwise [val_main_v33, val_main_v32, val_main_v31, val_main_cst_4, val_main_v30, val_main_v29, val_main_cst_3, val_main_v28, val_main_v27, val_main_v14, val_main_v8, val_main_v7, val_main_v6, val_main_v5, val_main_v4, val_main_v3, val_main_v2, val_main_cst, val_main_v1, val_main_v0]
  simp only [zero_sub]
  blk_point [iblk, V, idx t]

end Cert.Proof.InProjValue

end
-- ==== Proof.InProj.Claim.lean ====
/-
  The claims about the combined input projection, from the two runs and from what the result arrays hold.
-/
module

public import proofs.«01_k».proof.Proof.InProj.Value
public import proofs.«01_k».proof.Proof.Gen.InProj.Frame
public import proofs.«01_k».proof.Proof.Gen.InProjRefIdeal.Run
public import Idealize.ShloMosaic.Lib.Quiescent

@[expose] public section

set_option maxRecDepth 16384

noncomputable section

open Idealize.ShloMosaic Idealize.ShloMosaic.TcCoe Idealize.SL.Sem

namespace Cert.Proof.InProjClaims

/-- The printed kernel's frame. -/
theorem frame_p : Cert.quiescent_InProj := fun m ρ _ => Cert.InProj.Gen.frame m ρ
/-- The idealized kernel's frame. -/
theorem frame_pi : Cert.quiescent_InProjIdeal := fun m ρ _ => Cert.InProjIdeal.Gen.frame m ρ
/-- The reference's frame: its run read at the arguments; it declares no semaphore. -/
theorem frame_ri : Cert.quiescent_InProjRefIdeal := fun m ρ _ =>
  (θ_run Cert.InProjRefIdeal.defs _ _).mono (fun r h => ⟨fun c => (h c).2.2.2.2.2.2,
      Idealize.ShloMosaic.sem_eq_zero_of_no_sems (by decide) r.2⟩)
    (Cert.InProjRefIdeal.Value.run (F := Ideal) m ρ)

/-- The ideal pass rewrote nothing in this call. -/
theorem preserves : Cert.preserves_InProj_InProjIdeal := trivial

/-- The six parts of the projection are the reference's six results, of arguments that agree. -/
theorem algebraic : Cert.algebraic_InProjIdeal_InProjRefIdeal := by
  intro m ρ m' ρ' _ hagree
  refine ⟨_, _, _, _, _, _, Cert.InProjIdeal.Value.run_blocks (F := Ideal) m ρ, ?_⟩
  refine (θ_run Cert.InProjRefIdeal.defs _ _).mono (fun r h c => ?_) (Cert.InProjRefIdeal.Value.run (F := Ideal) m' ρ')
  obtain ⟨h0, h1, h2⟩ := hagree c
  obtain ⟨g0, g1, g2, g3, g4, g5, ga⟩ := h c
  refine ⟨g0.trans ?_, g1.trans ?_, g2.trans ?_, g3.trans ?_, g4.trans ?_, g5.trans ?_, ga⟩
  · rw [h0, h1, h2]; exact (InProjValue.final3 m c).symm
  · rw [h0, h1, h2]; exact (InProjValue.final4 m c).symm
  · rw [h0, h1, h2]; exact (InProjValue.final5 m c).symm
  · rw [h0, h1, h2]; exact (InProjValue.final6 m c).symm
  · rw [h0, h1, h2]; exact (InProjValue.final7 m c).symm
  · rw [h0, h1, h2]; exact (InProjValue.final8 m c).symm

end Cert.Proof.InProjClaims

end
-- ==== Proof.Merge.Value.lean ====
/-
  What the merge call's first two result arrays hold: the first DeepNorm update and its modulated copy. A grid point
  computes a block of 512 tokens; its payloads are read at an index and met with the reference's term at the place
  that the block has in the array. The other three arrays feed the routing and are not claimed.
-/
module

public import proofs.«01_k».proof.Defs
public import proofs.«01_k».proof.Proof.Gen.MergeIdeal.Value
public import proofs.«01_k».proof.Proof.Gen.MergeRefIdeal.Read
public import Idealize.ShloMosaic.Lib.Pointwise
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)

namespace Cert.Proof.MergeValue

open Cert.MergeIdeal Cert.MergeIdeal.Gen
open Cert.MergeRefIdeal.Read

variable (m : (ℓ : Loc nD τ sig) → Buf (Elt Ideal) ℓ)

/-- Every window's block index at a point, for the windows that the two results read, decided over the 64 points. -/
theorem idx : ∀ t : Fin grid0.N,
    win0_0.index t = ![t.val / 16, t.val % 16, 0]
    ∧ win0_1.index t = ![t.val / 16, t.val % 16, 0]
    ∧ win0_2.index t = ![t.val / 16, t.val % 16, 0]
    ∧ win0_3.index t = ![t.val / 16, t.val % 16, 0]
    ∧ win0_4.index t = ![t.val / 16, t.val % 16, 0]
    ∧ win0_5.index t = ![t.val / 16, 0, 0]
    ∧ win0_6.index t = ![0, 0]
    ∧ win0_7.index t = ![0, 0]
    ∧ win0_8.index t = ![0, 0]
    ∧ win0_9.index t = ![0, 0]
    ∧ win0_10.index t = ![0, 0]
    ∧ win0_15.index t = ![t.val / 16, t.val % 16, 0]
    ∧ win0_16.index t = ![t.val / 16, t.val % 16, 0] := by
  decide +kernel

/-- The attention argument. -/
abbrev X0 (c : Dev nD) := m ((c : Thread nD τ).loc main_arg0)
/-- The convolution argument. -/
abbrev X1 (c : Dev nD) := m ((c : Thread nD τ).loc main_arg1)
/-- The attention gate argument. -/
abbrev X2 (c : Dev nD) := m ((c : Thread nD τ).loc main_arg2)
/-- The convolution gate argument. -/
abbrev X3 (c : Dev nD) := m ((c : Thread nD τ).loc main_arg3)
/-- The residual argument. -/
abbrev X4 (c : Dev nD) := m ((c : Thread nD τ).loc main_arg4)
/-- The modulation argument. -/
abbrev X5 (c : Dev nD) := m ((c : Thread nD τ).loc main_arg5)
/-- The attention weight argument. -/
abbrev X6 (c : Dev nD) := m ((c : Thread nD τ).loc main_arg6)
/-- The convolution weight argument. -/
abbrev X7 (c : Dev nD) := m ((c : Thread nD τ).loc main_arg7)
/-- The output weight argument. -/
abbrev X8 (c : Dev nD) := m ((c : Thread nD τ).loc main_arg8)
/-- The norm scale argument. -/
abbrev X9 (c : Dev nD) := m ((c : Thread nD τ).loc main_arg9)
/-- The norm shift argument. -/
abbrev X10 (c : Dev nD) := m ((c : Thread nD τ).loc main_arg10)

/-- The block of the output projection that point `t` computes. -/
def Y (c : Dev nD) (t : Fin cfg0.N) : FVec Ideal S512x1024 .f32 :=
  k0_pay3 (iblk m c 0 t) (iblk m c 6 t) (iblk m c 1 t) (iblk m c 7 t) (iblk m c 2 t) (iblk m c 3 t) (iblk m c 8 t)

/-- The block of the first DeepNorm update that point `t` computes. -/
def U (c : Dev nD) (t : Fin cfg0.N) : FVec Ideal S512x1024 .f32 :=
  k0_pay6 (Y m c t) (View.ld (iblk m c 5 t) (Rect.unit ![0, 2, 0] ![1, 1, 1024] inb_S1x6x1024_S1x1x1024_0_2_0))
    (iblk m c 4 t) (iblk m c 9 t) (iblk m c 10 t)

/-- The batch that point `t` is in. -/
def bat (t : Fin cfg0.N) : Fin 4 := ⟨t.val / 16, by
  have h : t.val < 64 := t.isLt
  omega⟩
/-- The token of row `p` of point `t`'s block. -/
def tok (t : Fin cfg0.N) (p : Fin 512) : Fin 8192 := ⟨512 * (t.val % 16) + p.val, by omega⟩

/-- The attention output in point `t`'s block is the argument's at the point's batch and tokens. -/
theorem read0 (c : Dev nD) (t : Fin cfg0.N) (p : Fin 512) (q : Fin 512) :
    iblk m c 0 t (ix3 0 p q) = X0 m c (ix3 (bat t) (tok t p) q) := by
  blk_point [iblk, V, idx t, bat, tok]

/-- The convolution output in point `t`'s block is the argument's at the point's batch and tokens. -/
theorem read1 (c : Dev nD) (t : Fin cfg0.N) (p : Fin 512) (q : Fin 512) :
    iblk m c 1 t (ix3 0 p q) = X1 m c (ix3 (bat t) (tok t p) q) := by
  blk_point [iblk, V, idx t, bat, tok]

/-- The attention gate in point `t`'s block is the argument's at the point's batch and tokens. -/
theorem read2 (c : Dev nD) (t : Fin cfg0.N) (p : Fin 512) (q : Fin 1024) :
    iblk m c 2 t (ix3 0 p q) = X2 m c (ix3 (bat t) (tok t p) q) := by
  blk_point [iblk, V, idx t, bat, tok]

/-- The convolution gate in point `t`'s block is the argument's at the point's batch and tokens. -/
theorem read3 (c : Dev nD) (t : Fin cfg0.N) (p : Fin 512) (q : Fin 1024) :
    iblk m c 3 t (ix3 0 p q) = X3 m c (ix3 (bat t) (tok t p) q) := by
  blk_point [iblk, V, idx t, bat, tok]

/-- The residual in point `t`'s block is the argument's at the point's batch and tokens. -/
theorem read4 (c : Dev nD) (t : Fin cfg0.N) (p : Fin 512) (q : Fin 1024) :
    iblk m c 4 t (ix3 0 p q) = X4 m c (ix3 (bat t) (tok t p) q) := by
  blk_point [iblk, V, idx t, bat, tok]

/-- The modulation in point `t`'s block is the argument's at the point's batch. -/
theorem read5 (c : Dev nD) (t : Fin cfg0.N) (p : Fin 6) (q : Fin 1024) :
    iblk m c 5 t (ix3 0 p q) = X5 m c (ix3 (bat t) p q) := by
  blk_point [iblk, V, idx t, bat, tok]

/-- The attention weight is handed whole to every point; the cast that the host makes is the identity at the ideal instance. -/
theorem read6 (c : Dev nD) (t : Fin cfg0.N) (p : Fin 512) (q : Fin 1024) :
    iblk m c 6 t (ix2 p q) = X6 m c (ix2 p q) := by
  blk_point [iblk, V, idx t]

/-- The convolution weight is handed whole to every point; the cast that the host makes is the identity at the ideal instance. -/
theorem read7 (c : Dev nD) (t : Fin cfg0.N) (p : Fin 512) (q : Fin 1024) :
    iblk m c 7 t (ix2 p q) = X7 m c (ix2 p q) := by
  blk_point [iblk, V, idx t]

/-- The output weight is handed whole to every point; the cast that the host makes is the identity at the ideal instance. -/
theorem read8 (c : Dev nD) (t : Fin cfg0.N) (p : Fin 1024) (q : Fin 1024) :
    iblk m c 8 t (ix2 p q) = X8 m c (ix2 p q) := by
  blk_point [iblk, V, idx t]

/-- The norm scale is handed as one row to every point. -/
theorem read9 (c : Dev nD) (t : Fin cfg0.N) (q : Fin 1024) :
    iblk m c 9 t (ix2 0 q) = X9 m c (ix1 q) := by
  blk_point [iblk, V, idx t]

/-- The norm shift is handed as one row to every point. -/
theorem read10 (c : Dev nD) (t : Fin cfg0.N) (q : Fin 1024) :
    iblk m c 10 t (ix2 0 q) = X10 m c (ix1 q) := by
  blk_point [iblk, V, idx t]

/-- The output projection at a point is the reference's at the point's tokens. -/
theorem Y_at (c : Dev nD) (t : Fin cfg0.N) (p : Fin 512) (q : Fin 1024) :
    Y m c t (ix2 p q) = val_main_v11 (F := Ideal) (X0 m c) (X1 m c) (X2 m c) (X3 m c) (X6 m c) (X7 m c) (X8 m c) (ix3 (bat t) (tok t p) q) := by
  unfold Y
  unfold_payloads
  pointwise [val_main_v11, val_main_v10, val_main_v9, val_main_v8, val_main_v7, val_main_v6, val_main_v2, val_main_v1, val_main_v0]
  simp only [read0, read1, read2, read3, read4, read5, read6, read7, read8, read9, read10]

/-- The first DeepNorm update at a point is the reference's at the point's tokens. -/
theorem U_at (c : Dev nD) (t : Fin cfg0.N) (p : Fin 512) (q : Fin 1024) :
    U m c t (ix2 p q) = val_main_v40 (F := Ideal) (X0 m c) (X1 m c) (X2 m c) (X3 m c) (X4 m c) (X5 m c) (X6 m c) (X7 m c) (X8 m c) (X9 m c) (X10 m c) (ix3 (bat t) (tok t p) q) := by
  unfold U
  unfold_payloads
  pointwise [val_main_v40, val_main_v39, val_main_v38, val_main_v37, val_main_v36, val_main_v35, val_main_v34, val_main_v33, val_main_v32, val_main_v31, val_main_v30, val_main_cst_4, val_main_v29, val_main_v28, val_main_v27, val_main_v26, val_main_cst_3, val_main_v25, val_main_v24, val_main_cst_2, val_main_v23, val_main_v22, val_main_v21, val_main_v20, val_main_v19, val_main_cst_1, val_main_v18, val_main_v17, val_main_cst_0, val_main_v16, val_main_v15, val_main_v14, val_main_v13, val_main_v12, val_main_cst, val_main_v3]
  simp only [read0, read1, read2, read3, read4, read5, read6, read7, read8, read9, read10, Y_at]

/-- The first result is the reference's first DeepNorm update. -/
theorem final15 (c : Dev nD) : (dats m 0 c).arrAt 15 cfg0.N = val_main_v40 (F := Ideal) (X0 m c) (X1 m c) (X2 m c) (X3 m c) (X4 m c) (X5 m c) (X6 m c) (X7 m c) (X8 m c) (X9 m c) (X10 m c) := by
  refine (dats m 0 c).arrAt_eq_of_covers 15 _ (by decide +kernel) fun t hf y => ?_
  blk_simp
  rw [after0_15]
  have e : (outsAt0 m c t.val t.isLt).1 = k0_pay7 (U m c t) := by
    by_cases h0 : t.val % 64 = 0
    · rw [outsAt0_A m c t h0]
      frame_out
      rfl
    · rw [outsAt0_B m c t h0]
      frame_out
      rfl
  rw [e]
  unfold_payloads
  idx_vars y
  pointwise []
  have he : ((View.whole main_v31_0).slice (win0_15.rect t)).emb (ix3 y0 y1 y2) = ix3 (bat t) (tok t y1) y2 := by
    blk_point [idx t, bat, tok]
  rw [U_at, he]

/-- The second result is the reference's modulated copy of the first. -/
theorem final16 (c : Dev nD) : (dats m 0 c).arrAt 16 cfg0.N = val_main_v46 (F := Ideal) (X0 m c) (X1 m c) (X2 m c) (X3 m c) (X4 m c) (X5 m c) (X6 m c) (X7 m c) (X8 m c) (X9 m c) (X10 m c) := by
  refine (dats m 0 c).arrAt_eq_of_covers 16 _ (by decide +kernel) fun t hf y => ?_
  blk_simp
  rw [after0_16]
  have e : (outsAt0 m c t.val t.isLt).2.1
      = k0_pay9 (k0_pay4 (View.ld (iblk m c 5 t) (Rect.unit ![0, 3, 0] ![1, 1, 1024] inb_S1x6x1024_S1x1x1024_0_3_0)))
        (k0_pay5 (View.ld (iblk m c 5 t) (Rect.unit ![0, 4, 0] ![1, 1, 1024] inb_S1x6x1024_S1x1x1024_0_4_0)))
        (U m c t) := by
    by_cases h0 : t.val % 64 = 0
    · rw [outsAt0_A m c t h0]
      frame_out
      rfl
    · rw [outsAt0_B m c t h0]
      frame_out
      rfl
  rw [e]
  unfold_payloads
  idx_vars y
  pointwise [val_main_v46, val_main_v45, val_main_v44, val_main_v43, val_main_v42, val_main_v41, val_main_cst_5, val_main_v5, val_main_v4]
  have he : ((View.whole main_v31_1).slice (win0_16.rect t)).emb (ix3 y0 y1 y2) = ix3 (bat t) (tok t y1) y2 := by
    blk_point [idx t, bat, tok]
  simp only [he, U_at, read5]
  rfl

end Cert.Proof.MergeValue

end
-- ==== Proof.Merge.Claim.lean ====
/-
  The claims about the merge call, from the two runs and from what the result arrays hold.
-/
module

public import proofs.«01_k».proof.Proof.Merge.Value
public import proofs.«01_k».proof.Proof.Gen.Merge.Frame
public import proofs.«01_k».proof.Proof.Gen.MergeRefIdeal.Run
public import Idealize.ShloMosaic.Lib.Quiescent

@[expose] public section

set_option maxRecDepth 16384

noncomputable section

open Idealize.ShloMosaic Idealize.ShloMosaic.TcCoe Idealize.SL.Sem

namespace Cert.Proof.MergeClaims

/-- The printed kernel's frame. -/
theorem frame_p : Cert.quiescent_Merge := fun m ρ _ => Cert.Merge.Gen.frame m ρ
/-- The idealized kernel's frame. -/
theorem frame_pi : Cert.quiescent_MergeIdeal := fun m ρ _ => Cert.MergeIdeal.Gen.frame m ρ
/-- The reference's frame: its run read at the arguments; it declares no semaphore. -/
theorem frame_ri : Cert.quiescent_MergeRefIdeal := fun m ρ _ =>
  (θ_run Cert.MergeRefIdeal.defs _ _).mono (fun r h => ⟨fun c => (h c).2.2,
      Idealize.ShloMosaic.sem_eq_zero_of_no_sems (by decide) r.2⟩)
    (Cert.MergeRefIdeal.Value.run (F := Ideal) m ρ)

/-- The ideal pass rewrote nothing in this call. -/
theorem preserves : Cert.preserves_Merge_MergeIdeal := trivial

/-- The first two results are the reference's two results, of arguments that agree. -/
theorem algebraic : Cert.algebraic_MergeIdeal_MergeRefIdeal := by
  intro m ρ m' ρ' _ hagree
  refine ⟨fun c => (Cert.MergeIdeal.Gen.dats m 0 c).arrAt 15 Cert.MergeIdeal.cfg0.N,
    fun c => (Cert.MergeIdeal.Gen.dats m 0 c).arrAt 16 Cert.MergeIdeal.cfg0.N,
    (θ_run Cert.MergeIdeal.defs _ _).mono (fun r h c => ?_) (Cert.MergeIdeal.Value.run_blocks (F := Ideal) m ρ),
    (θ_run Cert.MergeRefIdeal.defs _ _).mono (fun r h c => ?_) (Cert.MergeRefIdeal.Value.run (F := Ideal) m' ρ')⟩
  · obtain ⟨g15, g16, -, -, -, ga⟩ := h c
    exact ⟨g15, g16, ga⟩
  · obtain ⟨h0, h1, h2, h3, h4, h5, h6, h7, h8, h9, h10, -⟩ := hagree c
    obtain ⟨g0, g1, ga⟩ := h c
    refine ⟨g0.trans ?_, g1.trans ?_, ga⟩
    · rw [Cert.MergeRefIdeal.Read.val_main_v40_eq, h0, h1, h2, h3, h4, h5, h6, h7, h8, h9, h10]
      exact (MergeValue.final15 m c).symm
    · rw [Cert.MergeRefIdeal.Read.val_main_v46_eq, h0, h1, h2, h3, h4, h5, h6, h7, h8, h9, h10]
      exact (MergeValue.final16 m c).symm

end Cert.Proof.MergeClaims

end
-- ==== Proof.lean ====
/-
  The certificate: the claims of the combined input projection, of the attention call, of the merge
  call and of the experts' call, each proved in its own module, set beside one another in the order of the claim.
-/
module

public import proofs.«01_k».proof.Defs
public import proofs.«01_k».proof.Proof.Attn.Claim
public import proofs.«01_k».proof.Proof.Experts.Claim
public import proofs.«01_k».proof.Proof.InProj.Claim
public import proofs.«01_k».proof.Proof.Merge.Claim
public import Idealize.ShloMosaic.Adequacy
public import Idealize.ShloMosaic.Init

@[expose] public section

noncomputable section

namespace Cert.Proof

open Idealize.ShloMosaic Idealize.SL.Sem

/-- Every claim, after the witnesses of the programs' stated facts. -/
theorem claim : Cert.Claim :=
  ⟨Cert.Experts.Gen.facts, Cert.ExpertsIdeal.Gen.facts, Cert.ExpertsRefIdeal.Gen.facts,
    Cert.Merge.Gen.facts, Cert.MergeIdeal.Gen.facts, Cert.MergeRefIdeal.Gen.facts,
    Cert.Attn.Gen.facts, Cert.AttnIdeal.Gen.facts, Cert.AttnRefIdeal.Gen.facts,
    Cert.InProj.Gen.facts, Cert.InProjIdeal.Gen.facts, Cert.InProjRefIdeal.Gen.facts,
    ExpertsClaims.pre_facts, AttnClaims.pre_facts,
    ExpertsClaims.frame_p, ExpertsClaims.frame_pi, ExpertsClaims.frame_ri, ExpertsClaims.frame_ri_pre,
    MergeClaims.frame_p, MergeClaims.frame_pi, MergeClaims.frame_ri,
    AttnClaims.frame_p, AttnClaims.frame_pi, AttnClaims.frame_pi_pre, AttnClaims.frame_ri, AttnClaims.frame_ri_pre,
    InProjClaims.frame_p, InProjClaims.frame_pi, InProjClaims.frame_ri,
    ExpertsClaims.preserves, ExpertsClaims.algebraic,
    MergeClaims.preserves, MergeClaims.algebraic,
    AttnClaims.preserves, AttnClaims.algebraic,
    InProjClaims.preserves, InProjClaims.algebraic⟩

end Cert.Proof

end
